-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_within_clip [hKernelIdeal : Cert.KernelIdeal.Facts] [hClippedIdeal : Cert.ClippedIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 64]⟩ : Shape).Idx, (Layout.block ⟨2, ![4096, 64]⟩ ⟨2, ![4096, 2048]⟩ 1 32 c ((Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![4096, 64]⟩ : Shape).Idx → _) i = 1#1 → r.2.mem ((c.tc : Thread Cert.KernelIdeal.nD Cert.KernelIdeal.τ).loc Cert.KernelIdeal.main_v1) i = (Layout.block ⟨2, ![4096, 64]⟩ ⟨2, ![4096, 2048]⟩ 1 32 c v0 : (⟨2, ![4096, 64]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 2048]⟩ : Shape).Idx, (Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within_clip (hKernelIdeal := hKernelIdeal) (hClippedIdeal := hClippedIdeal) (hOn_within_clip := hOn_within_clip)
-- ==== On_within_clip.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S128x4096 : Shape := ⟨2, ![128, 4096]⟩
abbrev S4096x2048 : Shape := ⟨2, ![4096, 2048]⟩
abbrev S4096x64 : Shape := ⟨2, ![4096, 64]⟩
abbrev S32x128x64 : Shape := ⟨3, ![32, 128, 64]⟩
abbrev S31 : Shape := ⟨1, ![31]⟩
abbrev S_ : Shape := ⟨0, ![]⟩
abbrev S128x2048 : Shape := ⟨2, ![128, 2048]⟩
abbrev S128x64 : Shape := ⟨2, ![128, 64]⟩
abbrev S1x128x64 : Shape := ⟨3, ![1, 128, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S4096x64, .f32⟩
  | .local _ .vmem, ⟨0, _⟩ => ⟨S128x4096, .f32⟩
  | .local _ .vmem, ⟨1, _⟩ => ⟨S4096x2048, .f32⟩
  | .local _ .vmem, ⟨2, _⟩ => ⟨S4096x64, .f32⟩
  | .local _ .vmem, ⟨3, _⟩ => ⟨S32x128x64, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v265 : BitVec 32 := Scalar.muli v2 c128_i32
  let c0_i32_193 : BitVec 32 := 0#32
  ![v265.toNat, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_194 : BitVec 32 := 0#32
  let c0_i32_195 : BitVec 32 := 0#32
  ![v2.toNat, 0, 0]
def k0_off3 (d0 : Dev nD) (c1_i32_196 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v269 : BitVec 32 := Scalar.addi v2 c1_i32_196
  let c32_i32_197 : BitVec 32 := 32#32
  let v270 : BitVec 32 := Scalar.remsi v269 c32_i32_197
  let c0_i32_203 : BitVec 32 := 0#32
  let c0_i32_204 : BitVec 32 := 0#32
  ![v270.toNat, 0, 0]
def k0_dev32 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_196 : BitVec 32 := 1#32
  let v269 : BitVec 32 := Scalar.addi v2 c1_i32_196
  let c32_i32_197 : BitVec 32 := 32#32
  let v270 : BitVec 32 := Scalar.remsi v269 c32_i32_197
  let c1_i32_200 : BitVec 32 := 1#32
  let v271 : BitVec 32 := Scalar.muli v270 c1_i32_200
  let v272 : BitVec 32 := Scalar.addi c0_i32_201 v271
  v272.toNat
def k0_dev33 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_205 : BitVec 32 := 2#32
  let v280 : BitVec 32 := Scalar.addi v2 c2_i32_205
  let c32_i32_206 : BitVec 32 := 32#32
  let v281 : BitVec 32 := Scalar.remsi v280 c32_i32_206
  let c1_i32_209 : BitVec 32 := 1#32
  let v282 : BitVec 32 := Scalar.muli v281 c1_i32_209
  let v283 : BitVec 32 := Scalar.addi c0_i32_210 v282
  v283.toNat
def k0_dev34 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_214 : BitVec 32 := 3#32
  let v291 : BitVec 32 := Scalar.addi v2 c3_i32_214
  let c32_i32_215 : BitVec 32 := 32#32
  let v292 : BitVec 32 := Scalar.remsi v291 c32_i32_215
  let c1_i32_218 : BitVec 32 := 1#32
  let v293 : BitVec 32 := Scalar.muli v292 c1_i32_218
  let v294 : BitVec 32 := Scalar.addi c0_i32_219 v293
  v294.toNat
def k0_dev35 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_223 : BitVec 32 := 4#32
  let v302 : BitVec 32 := Scalar.addi v2 c4_i32_223
  let c32_i32_224 : BitVec 32 := 32#32
  let v303 : BitVec 32 := Scalar.remsi v302 c32_i32_224
  let c1_i32_227 : BitVec 32 := 1#32
  let v304 : BitVec 32 := Scalar.muli v303 c1_i32_227
  let v305 : BitVec 32 := Scalar.addi c0_i32_228 v304
  v305.toNat
def k0_dev36 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_232 : BitVec 32 := 5#32
  let v313 : BitVec 32 := Scalar.addi v2 c5_i32_232
  let c32_i32_233 : BitVec 32 := 32#32
  let v314 : BitVec 32 := Scalar.remsi v313 c32_i32_233
  let c1_i32_236 : BitVec 32 := 1#32
  let v315 : BitVec 32 := Scalar.muli v314 c1_i32_236
  let v316 : BitVec 32 := Scalar.addi c0_i32_237 v315
  v316.toNat
def k0_dev37 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_241 : BitVec 32 := 6#32
  let v324 : BitVec 32 := Scalar.addi v2 c6_i32_241
  let c32_i32_242 : BitVec 32 := 32#32
  let v325 : BitVec 32 := Scalar.remsi v324 c32_i32_242
  let c1_i32_245 : BitVec 32 := 1#32
  let v326 : BitVec 32 := Scalar.muli v325 c1_i32_245
  let v327 : BitVec 32 := Scalar.addi c0_i32_246 v326
  v327.toNat
def k0_dev38 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_250 : BitVec 32 := 7#32
  let v335 : BitVec 32 := Scalar.addi v2 c7_i32_250
  let c32_i32_251 : BitVec 32 := 32#32
  let v336 : BitVec 32 := Scalar.remsi v335 c32_i32_251
  let c1_i32_254 : BitVec 32 := 1#32
  let v337 : BitVec 32 := Scalar.muli v336 c1_i32_254
  let v338 : BitVec 32 := Scalar.addi c0_i32_255 v337
  v338.toNat
def k0_dev39 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_259 : BitVec 32 := 8#32
  let v346 : BitVec 32 := Scalar.addi v2 c8_i32_259
  let c32_i32_260 : BitVec 32 := 32#32
  let v347 : BitVec 32 := Scalar.remsi v346 c32_i32_260
  let c1_i32_263 : BitVec 32 := 1#32
  let v348 : BitVec 32 := Scalar.muli v347 c1_i32_263
  let v349 : BitVec 32 := Scalar.addi c0_i32_264 v348
  v349.toNat
def k0_dev40 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_268 : BitVec 32 := 9#32
  let v357 : BitVec 32 := Scalar.addi v2 c9_i32_268
  let c32_i32_269 : BitVec 32 := 32#32
  let v358 : BitVec 32 := Scalar.remsi v357 c32_i32_269
  let c1_i32_272 : BitVec 32 := 1#32
  let v359 : BitVec 32 := Scalar.muli v358 c1_i32_272
  let v360 : BitVec 32 := Scalar.addi c0_i32_273 v359
  v360.toNat
def k0_dev41 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_277 : BitVec 32 := 10#32
  let v368 : BitVec 32 := Scalar.addi v2 c10_i32_277
  let c32_i32_278 : BitVec 32 := 32#32
  let v369 : BitVec 32 := Scalar.remsi v368 c32_i32_278
  let c1_i32_281 : BitVec 32 := 1#32
  let v370 : BitVec 32 := Scalar.muli v369 c1_i32_281
  let v371 : BitVec 32 := Scalar.addi c0_i32_282 v370
  v371.toNat
def k0_dev42 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_286 : BitVec 32 := 11#32
  let v379 : BitVec 32 := Scalar.addi v2 c11_i32_286
  let c32_i32_287 : BitVec 32 := 32#32
  let v380 : BitVec 32 := Scalar.remsi v379 c32_i32_287
  let c1_i32_290 : BitVec 32 := 1#32
  let v381 : BitVec 32 := Scalar.muli v380 c1_i32_290
  let v382 : BitVec 32 := Scalar.addi c0_i32_291 v381
  v382.toNat
def k0_dev43 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_295 : BitVec 32 := 12#32
  let v390 : BitVec 32 := Scalar.addi v2 c12_i32_295
  let c32_i32_296 : BitVec 32 := 32#32
  let v391 : BitVec 32 := Scalar.remsi v390 c32_i32_296
  let c1_i32_299 : BitVec 32 := 1#32
  let v392 : BitVec 32 := Scalar.muli v391 c1_i32_299
  let v393 : BitVec 32 := Scalar.addi c0_i32_300 v392
  v393.toNat
def k0_dev44 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_304 : BitVec 32 := 13#32
  let v401 : BitVec 32 := Scalar.addi v2 c13_i32_304
  let c32_i32_305 : BitVec 32 := 32#32
  let v402 : BitVec 32 := Scalar.remsi v401 c32_i32_305
  let c1_i32_308 : BitVec 32 := 1#32
  let v403 : BitVec 32 := Scalar.muli v402 c1_i32_308
  let v404 : BitVec 32 := Scalar.addi c0_i32_309 v403
  v404.toNat
def k0_dev45 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_313 : BitVec 32 := 14#32
  let v412 : BitVec 32 := Scalar.addi v2 c14_i32_313
  let c32_i32_314 : BitVec 32 := 32#32
  let v413 : BitVec 32 := Scalar.remsi v412 c32_i32_314
  let c1_i32_317 : BitVec 32 := 1#32
  let v414 : BitVec 32 := Scalar.muli v413 c1_i32_317
  let v415 : BitVec 32 := Scalar.addi c0_i32_318 v414
  v415.toNat
def k0_dev46 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_322 : BitVec 32 := 15#32
  let v423 : BitVec 32 := Scalar.addi v2 c15_i32_322
  let c32_i32_323 : BitVec 32 := 32#32
  let v424 : BitVec 32 := Scalar.remsi v423 c32_i32_323
  let c1_i32_326 : BitVec 32 := 1#32
  let v425 : BitVec 32 := Scalar.muli v424 c1_i32_326
  let v426 : BitVec 32 := Scalar.addi c0_i32_327 v425
  v426.toNat
def k0_dev47 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_331 : BitVec 32 := 16#32
  let v434 : BitVec 32 := Scalar.addi v2 c16_i32_331
  let c32_i32_332 : BitVec 32 := 32#32
  let v435 : BitVec 32 := Scalar.remsi v434 c32_i32_332
  let c1_i32_335 : BitVec 32 := 1#32
  let v436 : BitVec 32 := Scalar.muli v435 c1_i32_335
  let v437 : BitVec 32 := Scalar.addi c0_i32_336 v436
  v437.toNat
def k0_dev48 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_340 : BitVec 32 := 17#32
  let v445 : BitVec 32 := Scalar.addi v2 c17_i32_340
  let c32_i32_341 : BitVec 32 := 32#32
  let v446 : BitVec 32 := Scalar.remsi v445 c32_i32_341
  let c1_i32_344 : BitVec 32 := 1#32
  let v447 : BitVec 32 := Scalar.muli v446 c1_i32_344
  let v448 : BitVec 32 := Scalar.addi c0_i32_345 v447
  v448.toNat
def k0_dev49 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_349 : BitVec 32 := 18#32
  let v456 : BitVec 32 := Scalar.addi v2 c18_i32_349
  let c32_i32_350 : BitVec 32 := 32#32
  let v457 : BitVec 32 := Scalar.remsi v456 c32_i32_350
  let c1_i32_353 : BitVec 32 := 1#32
  let v458 : BitVec 32 := Scalar.muli v457 c1_i32_353
  let v459 : BitVec 32 := Scalar.addi c0_i32_354 v458
  v459.toNat
def k0_dev50 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_358 : BitVec 32 := 19#32
  let v467 : BitVec 32 := Scalar.addi v2 c19_i32_358
  let c32_i32_359 : BitVec 32 := 32#32
  let v468 : BitVec 32 := Scalar.remsi v467 c32_i32_359
  let c1_i32_362 : BitVec 32 := 1#32
  let v469 : BitVec 32 := Scalar.muli v468 c1_i32_362
  let v470 : BitVec 32 := Scalar.addi c0_i32_363 v469
  v470.toNat
def k0_dev51 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_367 : BitVec 32 := 20#32
  let v478 : BitVec 32 := Scalar.addi v2 c20_i32_367
  let c32_i32_368 : BitVec 32 := 32#32
  let v479 : BitVec 32 := Scalar.remsi v478 c32_i32_368
  let c1_i32_371 : BitVec 32 := 1#32
  let v480 : BitVec 32 := Scalar.muli v479 c1_i32_371
  let v481 : BitVec 32 := Scalar.addi c0_i32_372 v480
  v481.toNat
def k0_dev52 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_376 : BitVec 32 := 21#32
  let v489 : BitVec 32 := Scalar.addi v2 c21_i32_376
  let c32_i32_377 : BitVec 32 := 32#32
  let v490 : BitVec 32 := Scalar.remsi v489 c32_i32_377
  let c1_i32_380 : BitVec 32 := 1#32
  let v491 : BitVec 32 := Scalar.muli v490 c1_i32_380
  let v492 : BitVec 32 := Scalar.addi c0_i32_381 v491
  v492.toNat
def k0_dev53 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_385 : BitVec 32 := 22#32
  let v500 : BitVec 32 := Scalar.addi v2 c22_i32_385
  let c32_i32_386 : BitVec 32 := 32#32
  let v501 : BitVec 32 := Scalar.remsi v500 c32_i32_386
  let c1_i32_389 : BitVec 32 := 1#32
  let v502 : BitVec 32 := Scalar.muli v501 c1_i32_389
  let v503 : BitVec 32 := Scalar.addi c0_i32_390 v502
  v503.toNat
def k0_dev54 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_394 : BitVec 32 := 23#32
  let v511 : BitVec 32 := Scalar.addi v2 c23_i32_394
  let c32_i32_395 : BitVec 32 := 32#32
  let v512 : BitVec 32 := Scalar.remsi v511 c32_i32_395
  let c1_i32_398 : BitVec 32 := 1#32
  let v513 : BitVec 32 := Scalar.muli v512 c1_i32_398
  let v514 : BitVec 32 := Scalar.addi c0_i32_399 v513
  v514.toNat
def k0_dev55 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_403 : BitVec 32 := 24#32
  let v522 : BitVec 32 := Scalar.addi v2 c24_i32_403
  let c32_i32_404 : BitVec 32 := 32#32
  let v523 : BitVec 32 := Scalar.remsi v522 c32_i32_404
  let c1_i32_407 : BitVec 32 := 1#32
  let v524 : BitVec 32 := Scalar.muli v523 c1_i32_407
  let v525 : BitVec 32 := Scalar.addi c0_i32_408 v524
  v525.toNat
def k0_dev56 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_412 : BitVec 32 := 25#32
  let v533 : BitVec 32 := Scalar.addi v2 c25_i32_412
  let c32_i32_413 : BitVec 32 := 32#32
  let v534 : BitVec 32 := Scalar.remsi v533 c32_i32_413
  let c1_i32_416 : BitVec 32 := 1#32
  let v535 : BitVec 32 := Scalar.muli v534 c1_i32_416
  let v536 : BitVec 32 := Scalar.addi c0_i32_417 v535
  v536.toNat
def k0_dev57 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_421 : BitVec 32 := 26#32
  let v544 : BitVec 32 := Scalar.addi v2 c26_i32_421
  let c32_i32_422 : BitVec 32 := 32#32
  let v545 : BitVec 32 := Scalar.remsi v544 c32_i32_422
  let c1_i32_425 : BitVec 32 := 1#32
  let v546 : BitVec 32 := Scalar.muli v545 c1_i32_425
  let v547 : BitVec 32 := Scalar.addi c0_i32_426 v546
  v547.toNat
def k0_dev58 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_430 : BitVec 32 := 27#32
  let v555 : BitVec 32 := Scalar.addi v2 c27_i32_430
  let c32_i32_431 : BitVec 32 := 32#32
  let v556 : BitVec 32 := Scalar.remsi v555 c32_i32_431
  let c1_i32_434 : BitVec 32 := 1#32
  let v557 : BitVec 32 := Scalar.muli v556 c1_i32_434
  let v558 : BitVec 32 := Scalar.addi c0_i32_435 v557
  v558.toNat
def k0_dev59 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_439 : BitVec 32 := 28#32
  let v566 : BitVec 32 := Scalar.addi v2 c28_i32_439
  let c32_i32_440 : BitVec 32 := 32#32
  let v567 : BitVec 32 := Scalar.remsi v566 c32_i32_440
  let c1_i32_443 : BitVec 32 := 1#32
  let v568 : BitVec 32 := Scalar.muli v567 c1_i32_443
  let v569 : BitVec 32 := Scalar.addi c0_i32_444 v568
  v569.toNat
def k0_dev60 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_448 : BitVec 32 := 29#32
  let v577 : BitVec 32 := Scalar.addi v2 c29_i32_448
  let c32_i32_449 : BitVec 32 := 32#32
  let v578 : BitVec 32 := Scalar.remsi v577 c32_i32_449
  let c1_i32_452 : BitVec 32 := 1#32
  let v579 : BitVec 32 := Scalar.muli v578 c1_i32_452
  let v580 : BitVec 32 := Scalar.addi c0_i32_453 v579
  v580.toNat
def k0_dev61 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_457 : BitVec 32 := 30#32
  let v588 : BitVec 32 := Scalar.addi v2 c30_i32_457
  let c32_i32_458 : BitVec 32 := 32#32
  let v589 : BitVec 32 := Scalar.remsi v588 c32_i32_458
  let c1_i32_461 : BitVec 32 := 1#32
  let v590 : BitVec 32 := Scalar.muli v589 c1_i32_461
  let v591 : BitVec 32 := Scalar.addi c0_i32_462 v590
  v591.toNat
def k0_dev62 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_466 : BitVec 32 := 31#32
  let v599 : BitVec 32 := Scalar.addi v2 c31_i32_466
  let c32_i32_467 : BitVec 32 := 32#32
  let v600 : BitVec 32 := Scalar.remsi v599 c32_i32_467
  let c1_i32_470 : BitVec 32 := 1#32
  let v601 : BitVec 32 := Scalar.muli v600 c1_i32_470
  let v602 : BitVec 32 := Scalar.addi c0_i32_471 v601
  v602.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdealRun.Program.lean ====
/-
# The kernel body as four loops

The body signals the other 31 devices, computes one product, stores its 32 column blocks into the scratch buffer, waits
for 31 signals, copies one block into its own result and sends the 31 others, and waits for every copy. `canon` writes
that with a recursion over a list for each of the four repetitions, and `body_eq` says that the kernel is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.Sem

variable {F : FTy → Type} [FloatOps F]

/-- Programs of the kernel's thread. -/
abbrev KProg (F : FTy → Type) := Prog (TpuEff nD τ sig (Elt F) Λ₀ .tc) PUnit

/-! ## The memrefs, rectangles and semaphores -/

abbrev xM : Memref sig .tc .vmem S128x4096 .f32 := Memref.whole cc0_stg0_0
abbrev wM : Memref sig .tc .vmem S4096x2048 .f32 := Memref.whole cc0_stg1_0
abbrev oM : Memref sig .tc .vmem S4096x64 .f32 := Memref.whole cc0_stg2_0
abbrev yM : Memref sig .tc .vmem S32x128x64 .f32 := Memref.whole cc0_scratch0

abbrev xR : Rect S128x4096 := Rect.unit (s := S128x4096) ![0, 0] S128x4096.size inb_S128x4096_S128x4096_0_0
abbrev wR : Rect S4096x2048 := Rect.unit (s := S4096x2048) ![0, 0] S4096x2048.size inb_S4096x2048_S4096x2048_0_0

theorem inb_block (t : Fin 32) : ∀ a, (![t.val, 0, 0] : Fin 3 → Nat) a + S1x128x64.size a ≤ S32x128x64.size a := by
  revert t; decide
theorem slices_block (t : Fin 32) : S128x2048.Slices ![0, 64 * t.val] S128x64 := by revert t; decide
theorem inb_sem (i : Fin 31) : ∀ a, (![i.val] : Fin 1 → Nat) a + S1.size a ≤ S31.size a := by revert i; decide

/-- Block `t` of the scratch buffer, as the stores address it. -/
abbrev yR (t : Fin 32) : Rect S32x128x64 := Rect.unit (s := S32x128x64) ![t.val, 0, 0] S1x128x64.size (inb_block t)

/-- Columns `64 t … 64 t + 63` of a device's product, as block `t` of the scratch buffer. -/
def blkOf (t : Fin 32) (y : FVec F S128x2048 .f32) : FVec F S1x128x64 .f32 :=
  shapeCast S1x128x64 (extractStridedSlice S128x64 ![0, 64 * t.val] y (slices_block t)) shapeCasts_S128x64_S1x128x64

/-- Block `off` of the scratch buffer, as a copy's source; -/
abbrev ySlab (off : Fin 3 → Nat) (h : ∀ a, off a + S1x128x64.size a ≤ S32x128x64.size a) : Memref sig .tc .vmem S128x64 .f32 :=
  (yM.slice (Rect.unit (s := S32x128x64) off S1x128x64.size h) (fun _ => rfl)).squeeze S128x64 squeezes_S1x128x64_S128x64
/-- the 128 rows of the result from `off`, as a copy's target. -/
abbrev oRow (off : Fin 2 → Nat) (h : ∀ a, off a + S128x64.size a ≤ S4096x64.size a) : Memref sig .tc .vmem S128x64 .f32 :=
  oM.slice (Rect.unit (s := S4096x64) off S128x64.size h) (fun _ => rfl)

abbrev barS : Sem sig := (SemArray.scalar (sig.barrier 0 rfl) : Sems sig S_).sem
/-- Semaphore `i` of an array of 31. -/
abbrev semAt (a : DmaSems sig S31) (i : Fin 31) : DmaSem sig :=
  ((a.slice (Rect.unit (s := S31) ![i.val] S1.size (inb_sem i))).squeeze S_ squeezes_S1_S_).sem

/-! ## The loops -/

/-- One signal to the barrier semaphore of each device listed. -/
def sigL (k : KProg F) : List (Dev nD) → KProg F
  | [] => k
  | d :: ds => .op (.semSignal ((d, .tc) : Thread nD τ) barS (1#32 : BitVec 32).toInt) fun _ => sigL k ds

/-- The stores of the blocks listed, each after a load that nothing reads. -/
def storeL (y : FVec F S128x2048 .f32) (k : KProg F) : List (Fin 32) → KProg F
  | [] => k
  | t :: ts => .op (.load yM (yR t).toLoadRect (View.loadsAt_vmem h_S1x128x64)) fun _ =>
      .op (.store yM (yR t) (blkOf t y) Finset.univ (View.stores_vmem_bits_univ h_S1x128x64 rfl) (.inl rfl)) fun _ => storeL y k ts

/-- One remote copy for each pair listed: device and number of the copy. -/
def sendL (c : Dev nD) (k : KProg F) : List (Dev nD × Fin 31) → KProg F
  | [] => k
  | p :: ps => .op (.enqueueDma (ySlab (k0_off3 c (BitVec.ofNat 32 (1 + p.2.val))) (k0_off3_inb c p.2))
        (.remote (Dev.tc p.1) (oRow (k0_off1 c) (k0_off1_inb c)) (.dma (semAt cc0_scratch1 p.2)))
        (.dma (semAt cc0_scratch2 p.2)) ((View.wordExact_bits rfl).reshape _ _) (View.wordExact_bits rfl) ⟨⟨rfl, Or.inl rfl⟩, trivial⟩)
      fun _ => sendL c k ps

/-- The source and the target that the waits name: they only count bytes. -/
abbrev y0 : Memref sig .tc .vmem S128x64 .f32 := ySlab ![0, 0, 0] inb_S32x128x64_S1x128x64_0_0_0
abbrev o0 : Memref sig .tc .vmem S128x64 .f32 := oRow ![0, 0] inb_S4096x64_S128x64_0_0

/-- For each number listed, the wait for the send semaphore and the wait for the receive semaphore. -/
def waitL (k : KProg F) : List (Fin 31) → KProg F
  | [] => k
  | i :: is => .op (.waitDma2 (semAt cc0_scratch1 i) o0 y0 (View.wordExact_bits rfl) ((View.wordExact_bits rfl).reshape _ _)) fun _ =>
      .op (.waitDma2 (semAt cc0_scratch2 i) y0 o0 ((View.wordExact_bits rfl).reshape _ _) (View.wordExact_bits rfl)) fun _ => waitL k is

/-! ## The program -/

/-- The devices signalled, in program order; -/
def sigDevs (c : Dev nD) : List (Dev nD) :=
    [⟨k0_dev1 c, k0_dev1_lt c⟩, ⟨k0_dev2 c, k0_dev2_lt c⟩, ⟨k0_dev3 c, k0_dev3_lt c⟩, ⟨k0_dev4 c, k0_dev4_lt c⟩, ⟨k0_dev5 c,
    k0_dev5_lt c⟩, ⟨k0_dev6 c, k0_dev6_lt c⟩, ⟨k0_dev7 c, k0_dev7_lt c⟩, ⟨k0_dev8 c, k0_dev8_lt c⟩, ⟨k0_dev9 c, k0_dev9_lt c⟩,
    ⟨k0_dev10 c, k0_dev10_lt c⟩, ⟨k0_dev11 c, k0_dev11_lt c⟩, ⟨k0_dev12 c, k0_dev12_lt c⟩, ⟨k0_dev13 c, k0_dev13_lt c⟩, ⟨k0_dev14
    c, k0_dev14_lt c⟩, ⟨k0_dev15 c, k0_dev15_lt c⟩, ⟨k0_dev16 c, k0_dev16_lt c⟩, ⟨k0_dev17 c, k0_dev17_lt c⟩, ⟨k0_dev18 c,
    k0_dev18_lt c⟩, ⟨k0_dev19 c, k0_dev19_lt c⟩, ⟨k0_dev20 c, k0_dev20_lt c⟩, ⟨k0_dev21 c, k0_dev21_lt c⟩, ⟨k0_dev22 c,
    k0_dev22_lt c⟩, ⟨k0_dev23 c, k0_dev23_lt c⟩, ⟨k0_dev24 c, k0_dev24_lt c⟩, ⟨k0_dev25 c, k0_dev25_lt c⟩, ⟨k0_dev26 c,
    k0_dev26_lt c⟩, ⟨k0_dev27 c, k0_dev27_lt c⟩, ⟨k0_dev28 c, k0_dev28_lt c⟩, ⟨k0_dev29 c, k0_dev29_lt c⟩, ⟨k0_dev30 c,
    k0_dev30_lt c⟩, ⟨k0_dev31 c, k0_dev31_lt c⟩]
/-- the devices sent to, each with the number of the copy. -/
def sendDevs (c : Dev nD) : List (Dev nD × Fin 31) :=
    [(⟨k0_dev32 c, k0_dev32_lt c⟩, 0), (⟨k0_dev33 c, k0_dev33_lt c⟩, 1), (⟨k0_dev34 c, k0_dev34_lt c⟩, 2), (⟨k0_dev35 c,
    k0_dev35_lt c⟩, 3), (⟨k0_dev36 c, k0_dev36_lt c⟩, 4), (⟨k0_dev37 c, k0_dev37_lt c⟩, 5), (⟨k0_dev38 c, k0_dev38_lt c⟩, 6),
    (⟨k0_dev39 c, k0_dev39_lt c⟩, 7), (⟨k0_dev40 c, k0_dev40_lt c⟩, 8), (⟨k0_dev41 c, k0_dev41_lt c⟩, 9), (⟨k0_dev42 c,
    k0_dev42_lt c⟩, 10), (⟨k0_dev43 c, k0_dev43_lt c⟩, 11), (⟨k0_dev44 c, k0_dev44_lt c⟩, 12), (⟨k0_dev45 c, k0_dev45_lt c⟩, 13),
    (⟨k0_dev46 c, k0_dev46_lt c⟩, 14), (⟨k0_dev47 c, k0_dev47_lt c⟩, 15), (⟨k0_dev48 c, k0_dev48_lt c⟩, 16), (⟨k0_dev49 c,
    k0_dev49_lt c⟩, 17), (⟨k0_dev50 c, k0_dev50_lt c⟩, 18), (⟨k0_dev51 c, k0_dev51_lt c⟩, 19), (⟨k0_dev52 c, k0_dev52_lt c⟩, 20),
    (⟨k0_dev53 c, k0_dev53_lt c⟩, 21), (⟨k0_dev54 c, k0_dev54_lt c⟩, 22), (⟨k0_dev55 c, k0_dev55_lt c⟩, 23), (⟨k0_dev56 c,
    k0_dev56_lt c⟩, 24), (⟨k0_dev57 c, k0_dev57_lt c⟩, 25), (⟨k0_dev58 c, k0_dev58_lt c⟩, 26), (⟨k0_dev59 c, k0_dev59_lt c⟩, 27),
    (⟨k0_dev60 c, k0_dev60_lt c⟩, 28), (⟨k0_dev61 c, k0_dev61_lt c⟩, 29), (⟨k0_dev62 c, k0_dev62_lt c⟩, 30)]

/-- After the stores: the wait on the barrier, the copies and their waits. -/
def exchange (c : Dev nD) : KProg F :=
  .op (.semWait barS (31#32 : BitVec 32).toInt) fun _ =>
  .op (.enqueueDma (ySlab (k0_off2 c) (k0_off2_inb c)) (.here (oRow (k0_off1 c) (k0_off1_inb c))) (.dma cc0_scratch3.sem)
    ((View.wordExact_bits rfl).reshape _ _) (View.wordExact_bits rfl) ⟨Or.inl rfl, trivial⟩) fun _ =>
  sendL c (.op (.waitDma2 cc0_scratch3.sem y0 o0 ((View.wordExact_bits rfl).reshape _ _) (View.wordExact_bits rfl)) fun _ =>
    waitL (.ret ⟨⟩) (List.finRange 31)) (sendDevs c)

/-- The body on device `c`. -/
def canon (c : Dev nD) : KProg F :=
  sigL (.op (.load xM xR.toLoadRect (View.loadsAt_vmem h_S128x4096)) fun x =>
    .op (.load wM wR.toLoadRect (View.loadsAt_vmem h_S4096x2048)) fun w =>
    storeL (k0_pay1 x w) (exchange c) (List.finRange 32)) (sigDevs c)

set_option maxRecDepth 100000 in
set_option maxHeartbeats 4000000 in
/-- The kernel's body is the program. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    cc0_scratch1 cc0_scratch2 cc0_scratch3 = .op .deviceId fun c => canon c := by
  rfl

end Cert.KernelIdealRun

end
-- ==== Proof.KernelIdealRun.Geometry.lean ====
/-
# Devices around the ring, and the blocks of the two buffers

Copy `i` (of 31) goes from device `c` to `up c i`, the device `i + 1` places further. The scratch buffer is 32 blocks, one
for each receiving device; the result is 32 groups of 128 rows, one for each sending device. This module says which
elements each block has, that a buffer held whole is its blocks held one by one, and what the kernel's stores and
copies put into them.
-/
module

public import proofs.«01_k».proof.Proof.KernelIdealRun.Program
public import Idealize.ShloMosaic.Lib.ValueIdx

@[expose] public section

noncomputable section

namespace Cert.KernelIdealRun

open Cert.KernelIdeal Cert.KernelIdeal.Gen

open Idealize.ShloMosaic Idealize.ShloMosaic.ValueIdx
open Idealize.ShloMosaic.TcCoe
open Idealize.SL Idealize.SL.Sem

variable {F : FTy → Type} [FloatOps F]

/-! ## Devices -/

/-- The device that copy `i` of device `c` goes to; -/
def up (c : Dev nD) (i : Fin 31) : Dev nD := ⟨(c.val + i.val + 1) % 32, Nat.mod_lt _ (by decide)⟩
/-- the device whose copy `i` comes to device `c`. -/
def dn (c : Dev nD) (i : Fin 31) : Dev nD := ⟨(c.val + 31 - i.val) % 32, Nat.mod_lt _ (by decide)⟩

theorem dev_lt (c : Dev nD) : c.val < 32 := c.isLt
theorem dn_up (c : Dev nD) (i : Fin 31) : dn (up c i) i = c := by
  apply Fin.ext; have := dev_lt c; have := i.isLt; show ((c.val + i.val + 1) % 32 + 31 - i.val) % 32 = c.val; omega
theorem up_dn (c : Dev nD) (i : Fin 31) : up (dn c i) i = c := by
  apply Fin.ext; have := dev_lt c; have := i.isLt; show ((c.val + 31 - i.val) % 32 + i.val + 1) % 32 = c.val; omega
theorem dn_rev (c : Dev nD) (i : Fin 31) : dn c (Fin.rev i) = up c i := by
  apply Fin.ext; have := i.isLt; have h := Fin.val_rev i
  show (c.val + 31 - (Fin.rev i).val) % 32 = (c.val + i.val + 1) % 32
  rw [h]; omega
/-- Copy `i` as a permutation of the devices. -/
def rot (i : Fin 31) : Dev nD ≃ Dev nD := ⟨fun c => up c i, fun c => dn c i, fun c => dn_up c i, fun c => up_dn c i⟩

theorem up_injective (c : Dev nD) : Function.Injective (up c) := fun i j h => by
  have h' : (c.val + i.val + 1) % 32 = (c.val + j.val + 1) % 32 := congrArg Fin.val h
  apply Fin.ext; have := i.isLt; have := j.isLt; have := dev_lt c; omega
theorem dn_injective (c : Dev nD) : Function.Injective (dn c) := fun i j h => by
  have h' : (c.val + 31 - i.val) % 32 = (c.val + 31 - j.val) % 32 := congrArg Fin.val h
  apply Fin.ext; have := i.isLt; have := j.isLt; have := dev_lt c; omega

/-- The other devices are those that the copies go to, -/
theorem erase_up (c : Dev nD) : (Finset.univ : Finset (Dev nD)).erase c = Finset.univ.map ⟨up c, up_injective c⟩ := by
  ext t
  simp only [Finset.mem_erase, Finset.mem_univ, and_true, Finset.mem_map, true_and, Function.Embedding.coeFn_mk]
  have hc := dev_lt c; have ht := dev_lt t
  constructor
  · intro h
    have hne : t.val ≠ c.val := fun e => h (Fin.ext e)
    refine ⟨⟨(t.val + 31 - c.val) % 32, by omega⟩, Fin.ext ?_⟩
    show (c.val + (t.val + 31 - c.val) % 32 + 1) % 32 = t.val
    omega
  · rintro ⟨i, rfl⟩ e
    have e' : (c.val + i.val + 1) % 32 = c.val := congrArg Fin.val e
    have := i.isLt; omega
/-- and those that they come from. -/
theorem erase_dn (c : Dev nD) : (Finset.univ : Finset (Dev nD)).erase c = Finset.univ.map ⟨dn c, dn_injective c⟩ := by
  rw [erase_up]; ext t
  simp only [Finset.mem_map, Finset.mem_univ, true_and, Function.Embedding.coeFn_mk]
  constructor
  · rintro ⟨i, rfl⟩; exact ⟨Fin.rev i, dn_rev c i⟩
  · rintro ⟨i, rfl⟩; exact ⟨Fin.rev i, by rw [← dn_rev, Fin.rev_rev]⟩

set_option maxRecDepth 10000 in
theorem sigDevs_eq (c : Dev nD) : sigDevs c = (List.finRange 31).map (up c) := by revert c; decide +kernel
set_option maxRecDepth 10000 in
theorem sendDevs_eq (c : Dev nD) : sendDevs c = (List.finRange 31).map fun i => (up c i, i) := by revert c; decide +kernel

theorem off3_eq (c : Dev nD) (i : Fin 31) : k0_off3 c (BitVec.ofNat 32 (1 + i.val)) = k0_off2 (up c i) :=
  (k0_off3_eq c i).trans (k0_off2_eq (up c i)).symm

theorem sem1_eq (i : Fin 31) : semAt cc0_scratch1 i = ⟨3 + i.val, by have := i.isLt; show _ < 66; omega⟩ := by revert i; decide +kernel
theorem sem2_eq (i : Fin 31) : semAt cc0_scratch2 i = ⟨34 + i.val, by have := i.isLt; show _ < 66; omega⟩ := by revert i; decide +kernel
theorem sem3_eq : cc0_scratch3.sem = (⟨65, by decide⟩ : DmaSem sig) := by decide +kernel

/-! ## The blocks -/

/-- Block `t` of the scratch buffer: what goes to device `t`; -/
abbrev yB (t : Dev nD) : Memref sig .tc .vmem S128x64 .f32 := ySlab (k0_off2 t) (k0_off2_inb t)
/-- group `p` of the result's rows: what comes from device `p`. -/
abbrev oB (p : Dev nD) : Memref sig .tc .vmem S128x64 .f32 := oRow (k0_off1 p) (k0_off1_inb p)

/-- Their elements. -/
abbrev yI (t : Dev nD) : Finset S32x128x64.Idx := (yB t).view.set
abbrev oI (p : Dev nD) : Finset S4096x64.Idx := (oB p).view.set

theorem mem_yB (t : Dev nD) (i : S32x128x64.Idx) : i ∈ (yB t).view.set ↔ (i 0).val = t.val := by
  have h1 : (i 1).val < 128 := (i 1).isLt
  have h2 : (i 2).val < 64 := (i 2).isLt
  rw [show (yB t).view.set = _ from Memref.set_view_squeeze _ squeezes_S1x128x64_S128x64]
  show i ∈ ((View.whole cc0_scratch0).slice (Rect.unit (s := S32x128x64) (k0_off2 t) S1x128x64.size (k0_off2_inb t))).set ↔ _
  rw [View.set_slice_whole]
  refine Rect.mem_set_unit.trans ?_
  rw [k0_off2_eq]
  constructor
  · intro h
    have h0 : t.val ≤ (i 0).val ∧ (i 0).val < t.val + 1 := h 0
    omega
  · intro h a
    match a with
    | ⟨0, _⟩ => exact (show t.val ≤ (i 0).val ∧ (i 0).val < t.val + 1 by omega)
    | ⟨1, _⟩ => exact (show 0 ≤ (i 1).val ∧ (i 1).val < 0 + 128 by omega)
    | ⟨2, _⟩ => exact (show 0 ≤ (i 2).val ∧ (i 2).val < 0 + 64 by omega)

theorem mem_oB (p : Dev nD) (i : S4096x64.Idx) : i ∈ (oB p).view.set ↔ (i 0).val / 128 = p.val := by
  have h1 : (i 1).val < 64 := (i 1).isLt
  show i ∈ ((View.whole cc0_stg2_0).slice (Rect.unit (s := S4096x64) (k0_off1 p) S128x64.size (k0_off1_inb p))).set ↔ _
  rw [View.set_slice_whole]
  refine Rect.mem_set_unit.trans ?_
  rw [k0_off1_eq]
  constructor
  · intro h
    have h0 : 128 * p.val ≤ (i 0).val ∧ (i 0).val < 128 * p.val + 128 := h 0
    omega
  · intro h a
    match a with
    | ⟨0, _⟩ => exact (show 128 * p.val ≤ (i 0).val ∧ (i 0).val < 128 * p.val + 128 by omega)
    | ⟨1, _⟩ => exact (show 0 ≤ (i 1).val ∧ (i 1).val < 0 + 64 by omega)

theorem yB_disjoint (t t' : Dev nD) (h : t ≠ t') : Disjoint (yB t).view.set (yB t').view.set := by
  refine Finset.disjoint_left.mpr fun i hi hi' => h (Fin.ext ?_)
  exact ((mem_yB t i).mp hi).symm.trans ((mem_yB t' i).mp hi')
theorem oB_disjoint (t t' : Dev nD) (h : t ≠ t') : Disjoint (oB t).view.set (oB t').view.set := by
  refine Finset.disjoint_left.mpr fun i hi hi' => h (Fin.ext ?_)
  exact ((mem_oB t i).mp hi).symm.trans ((mem_oB t' i).mp hi')
theorem yB_cover : (Finset.univ : Finset (Dev nD)).biUnion yI = Finset.univ :=
  Finset.eq_univ_iff_forall.mpr fun i => Finset.mem_biUnion.mpr
    ⟨⟨(i 0).val, (show (i 0).val < 32 from (i 0).isLt)⟩, Finset.mem_univ _, (mem_yB _ i).mpr rfl⟩
theorem oB_cover : (Finset.univ : Finset (Dev nD)).biUnion oI = Finset.univ :=
  Finset.eq_univ_iff_forall.mpr fun i => Finset.mem_biUnion.mpr
    ⟨⟨(i 0).val / 128, by have : (i 0).val < 4096 := (i 0).isLt; show _ < 32; omega⟩, Finset.mem_univ _, (mem_oB _ i).mpr rfl⟩

/-! ## Contents -/

/-- The scratch buffer after the stores, from the device's product `y`. -/
def yBuf (y : FVec F S128x2048 .f32) : (cc0_scratch0 : Ref sig .tc).ty.Contents (Elt F) := fun i =>
  blkOf (⟨(i 0).val, (i 0).isLt⟩ : Fin 32) y (ix3 (⟨0, Nat.one_pos⟩ : Fin 1) (i 1) (i 2))

/-- The rows that a device with product `y` sends to device `t`; -/
def rowsFor (t : Dev nD) (y : FVec F S128x2048 .f32) : S128x64.Idx → Elt F .f32 := (yB t).view.read (Elt F) (yBuf y)

/-- the result of device `t` when device `p`'s product is `Y p`. -/
def outBuf (t : Dev nD) (Y : Dev nD → FVec F S128x2048 .f32) : (cc0_stg2_0 : Ref sig .tc).ty.Contents (Elt F) := fun i =>
  rowsFor t (Y (⟨(i 0).val / 128, by have : (i 0).val < 4096 := (i 0).isLt; show _ < 32; omega⟩ : Dev nD))
    (ix2 (⟨(i 0).val % 128, Nat.mod_lt _ (by decide)⟩ : Fin 128) (i 1))

/-- A copy of block `t` into group `p` leaves there what device `t`'s result is to hold from device `p`. -/
theorem write_rows (t p : Dev nD) (Y : Dev nD → FVec F S128x2048 .f32) (f : (cc0_stg2_0 : Ref sig .tc).ty.Contents (Elt F)) :
    ∀ i ∈ (oB p).view.set, (oB p).view.write (Elt F) f ((yB t).view.read (Elt F) (yBuf (Y p))) Finset.univ i = outBuf t Y i := by
  intro i hi
  obtain ⟨x, -, rfl⟩ := Finset.mem_map.mp hi
  rw [View.write_emb_of_mem _ _ (Finset.mem_univ x), cast_eq]
  have hx : (x 0).val < 128 := (x 0).isLt
  have h0 : (((oB p).view.emb x) 0).val = 128 * p.val + (x 0).val := by
    show (k0_off1 p) 0 + 1 * (x 0).val = _
    rw [k0_off1_eq]; simp
  have h1 : (((oB p).view.emb x) 1).val = (x 1).val := by
    show (k0_off1 p) 1 + 1 * (x 1).val = _
    rw [k0_off1_eq]; simp
  unfold outBuf rowsFor
  have hp : (⟨(((oB p).view.emb x) 0).val / 128, by have : (((oB p).view.emb x) 0).val < 4096 := (((oB p).view.emb x) 0).isLt; show _ < 32; omega⟩ : Dev nD) = p :=
    Fin.ext (by show (((oB p).view.emb x) 0).val / 128 = _; omega)
  have hj : (ix2 (⟨(((oB p).view.emb x) 0).val % 128, Nat.mod_lt _ (by decide)⟩ : Fin 128) (((oB p).view.emb x) 1) : S128x64.Idx) = x := by
    refine (congrArg₂ ix2 (Fin.ext ?_) (Fin.ext ?_)).trans (eq_ix2 x).symm
    · show (((oB p).view.emb x) 0).val % 128 = _; omega
    · exact h1
  rw [hp]
  exact (congrArg _ hj).symm

/-- The store of block `t` writes the block's elements of the final contents and leaves the others. -/
theorem write_block (t : Fin 32) (y : FVec F S128x2048 .f32) (f : (cc0_scratch0 : Ref sig .tc).ty.Contents (Elt F)) (i : S32x128x64.Idx) :
    (yM.access (yR t) : View sig .tc _ _ _).write (Elt F) f (blkOf t y) Finset.univ i = if (i 0).val = t.val then yBuf y i else f i := by
  have hset : ∀ j : S32x128x64.Idx, j ∈ (yM.access (yR t) : View sig .tc _ _ _).set ↔ (j 0).val = t.val := fun j => by
    have h1 : (j 1).val < 128 := (j 1).isLt
    have h2 : (j 2).val < 64 := (j 2).isLt
    show j ∈ ((View.whole cc0_scratch0).slice (yR t)).set ↔ _
    rw [View.set_slice_whole]
    refine Rect.mem_set_unit.trans ⟨fun h => ?_, fun h a => ?_⟩
    · have h0 : t.val ≤ (j 0).val ∧ (j 0).val < t.val + 1 := h 0
      omega
    · match a with
      | ⟨0, _⟩ => exact (show t.val ≤ (j 0).val ∧ (j 0).val < t.val + 1 by omega)
      | ⟨1, _⟩ => exact (show 0 ≤ (j 1).val ∧ (j 1).val < 0 + 128 by omega)
      | ⟨2, _⟩ => exact (show 0 ≤ (j 2).val ∧ (j 2).val < 0 + 64 by omega)
  by_cases h : (i 0).val = t.val
  · rw [if_pos h]
    obtain ⟨x, -, rfl⟩ := Finset.mem_map.mp ((hset i).mpr h)
    rw [View.write_emb_of_mem _ _ (Finset.mem_univ x), cast_eq]
    have ht : (⟨((((yM.access (yR t) : View sig .tc _ _ _).emb x) : S32x128x64.Idx) 0).val, (((yM.access (yR t) : View sig .tc _ _ _).emb x) 0).isLt⟩ : Fin 32) = t := Fin.ext h
    have hx : (x 0).val < 1 := (x 0).isLt
    unfold yBuf
    rw [ht]
    refine congrArg (blkOf t y) ((eq_ix3 x).trans ?_)
    congr 1
    · exact Fin.ext (by show (x 0).val = 0; omega)
    · exact Fin.ext (by show (x 1).val = 0 + 1 * (x 1).val; omega)
    · exact Fin.ext (by show (x 2).val = 0 + 1 * (x 2).val; omega)
  · rw [if_neg h]
    exact View.write_of_not_mem _ _ _ fun hm => h ((hset i).mp hm)

end Cert.KernelIdealRun

end
-- ==== Proof.KernelIdealRun.Protocol.lean ====
/-
# The protocol

Semaphores of device `c`, and what each hands over:

* the barrier semaphore: every other device signals it once when it has entered the kernel, and device `c` waits for 31.
  The signal of device `p` (duty `i` where `p = dn c i`) hands over the rows of `p`'s result that `c` is to fill;
* receive semaphore `i`: credited when the copy from `dn c i` lands, handing over those rows of the result, filled;
* send semaphore `i`: credited when copy `i` has left, handing back the block of the scratch buffer;
* the local semaphore: credited when the device's own block has been copied, handing over both.

Each is used for one round. A wait on the barrier is below the receive semaphores that the device still owes (levels 1
and 2), and the other waits come when it owes nothing more.
-/
module

public import proofs.«01_k».proof.Proof.KernelIdealRun.Geometry

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the pipeline library's and the protocol's, whose duties are numbered by `Fin 31`. -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- Send semaphore `i`, receive semaphore `i`, the local semaphore. -/
def sS (i : Fin 31) : DmaSem sig := ⟨i.val + 3, by have := i.isLt; show _ < 66; omega⟩
def rS (i : Fin 31) : DmaSem sig := ⟨i.val + 34, by have := i.isLt; show _ < 66; omega⟩
def lS : DmaSem sig := ⟨65, by decide⟩

theorem sem1_sS (i : Fin 31) : semAt cc0_scratch1 i = sS i := (sem1_eq i).trans (Fin.ext (Nat.add_comm _ _))
theorem sem2_rS (i : Fin 31) : semAt cc0_scratch2 i = rS i := (sem2_eq i).trans (Fin.ext (Nat.add_comm _ _))

abbrev barCell (c : Dev nD) : GSem nD τ sig := ((c : Thread nD τ), .reg barS)
abbrev sendCell (c : Dev nD) (i : Fin 31) : GSem nD τ sig := ((c : Thread nD τ), .dma (sS i))
abbrev recvCell (c : Dev nD) (i : Fin 31) : GSem nD τ sig := ((c : Thread nD τ), .dma (rS i))
abbrev locCell (c : Dev nD) : GSem nD τ sig := ((c : Thread nD τ), .dma lS)

/-- A device's own 63 semaphores in order; -/
def osem (k : Fin 63) : SemLoc sig := .dma ⟨k.val + 3, by have := k.isLt; show _ < 66; omega⟩
/-- all 64, the barrier first. -/
def csem : Fin 64 → SemLoc sig
  | ⟨0, _⟩ => .reg barS
  | ⟨n + 1, h⟩ => osem ⟨n, Nat.lt_of_succ_lt_succ h⟩
abbrev kcell (ck : Dev nD × Fin 64) : GSem nD τ sig := ((ck.1 : Thread nD τ), csem ck.2)

def kB : Fin 64 := ⟨0, by decide⟩
def kS (i : Fin 31) : Fin 64 := ⟨i.val + 1, by have := i.isLt; omega⟩
def kR (i : Fin 31) : Fin 64 := ⟨i.val + 31 + 1, by have := i.isLt; omega⟩
def kL : Fin 64 := ⟨63, by decide⟩

theorem kcell_bar (c : Dev nD) : kcell (c, kB) = barCell c := rfl
theorem kcell_send (c : Dev nD) (i : Fin 31) : kcell (c, kS i) = sendCell c i := rfl
theorem kcell_recv (c : Dev nD) (i : Fin 31) : kcell (c, kR i) = recvCell c i := rfl
theorem kcell_loc (c : Dev nD) : kcell (c, kL) = locCell c := rfl

/-- The credit of one copy. -/
abbrev N : ℕ := (oB (0 : Fin 32)).view.dmaCredit
theorem N_pos : 0 < N := View.dmaCredit_pos _ (by decide)

/-! ## The payloads -/

/-- Group `p` of the rows of device `d`'s result; -/
def oPts (d p : Dev nD) (f : (cc0_stg2_0 : Ref sig .tc).ty.Contents (Elt F)) : sProp 𝕄 :=
  (oB p).view.loc (d : Thread nD τ) ↦[(oB p).view.set]{fullShare} f
/-- block `t` of device `d`'s scratch buffer. -/
def yPts (d t : Dev nD) (f : (cc0_scratch0 : Ref sig .tc).ty.Contents (Elt F)) : sProp 𝕄 :=
  (yB t).view.loc (d : Thread nD τ) ↦[(yB t).view.set]{fullShare} f

omit [FloatOps F] in
instance oPts_storable (d p : Dev nD) (f) : BI.Storable (upEmb : UEmb _ 𝕄) (oPts (F := F) d p f) := by unfold oPts; infer_instance
omit [FloatOps F] in
instance yPts_storable (d p : Dev nD) (f) : BI.Storable (upEmb : UEmb _ 𝕄) (yPts (F := F) d p f) := by unfold yPts; infer_instance

variable (Y : Dev nD → FVec F S128x2048 .f32)

def barPay (c : Dev nD) (i : Fin 31) : sProp 𝕄 := iprop(∃ f, oPts (F := F) (dn c i) c f)
def recvPay (c : Dev nD) (i : Fin 31) : sProp 𝕄 := oPts c (dn c i) (outBuf c Y)
def sendPay (c : Dev nD) (i : Fin 31) : sProp 𝕄 := yPts c (up c i) (yBuf (Y c))
def locPay (c : Dev nD) : sProp 𝕄 := iprop(oPts c c (outBuf c Y) ∗ yPts c c (yBuf (Y c)))

/-- The payload of DMA semaphore `q` of device `c`. -/
def dmaPay (c : Dev nD) (q : ℕ) : sProp 𝕄 :=
  if h : 3 ≤ q ∧ q < 34 then sendPay Y c ⟨q - 3, by omega⟩
  else if h : 34 ≤ q ∧ q < 65 then recvPay Y c ⟨q - 34, by omega⟩
  else if q = 65 then locPay Y c
  else iprop(emp)

/-- The duties: all 31 of the barrier, one of each DMA semaphore but the staging ones. -/
def dutiesOf (s : SemLoc sig) : Finset (Fin 31) := match s with
  | .reg s => if s = barS then Finset.univ else ∅
  | .dma q => if 3 ≤ q.val then {0} else ∅

def Rd : Rounds.Schedule (GSem nD τ sig) (Fin 31) 𝕄 where
  duties g r := if r = 0 ∧ g.1.2 = .tc then dutiesOf g.2 else ∅
  unitless _ := False
  amount g _ _ := match g.2 with
    | .reg _ => 1
    | .dma _ => N
  payload g _ d := match g.2 with
    | .reg _ => barPay g.1.1 d
    | .dma q => dmaPay Y g.1.1 q.val
  amount_pos g _ _ _ := by
    rcases g with ⟨t, _ | _⟩
    · exact Nat.one_pos
    · exact N_pos

instance Rd_payload_storable (g : GSem nD τ sig) (r : ℕ) (d : Fin 31) :
    BI.Storable (upEmb : UEmb _ 𝕄) ((Rd (F := F) Y).payload g r d) := by
  rcases g with ⟨t, _ | q⟩
  · show BI.Storable upEmb (barPay t.1 d)
    unfold barPay; infer_instance
  · show BI.Storable upEmb (dmaPay Y t.1 q.val)
    unfold dmaPay sendPay recvPay locPay
    (repeat' split) <;> infer_instance

theorem duties_tc (c : Dev nD) (sm : SemLoc sig) : (Rd (F := F) Y).duties ((c : Thread nD τ), sm) 0 = dutiesOf sm := by
  show (if 0 = 0 ∧ ((c : Thread nD τ), sm).1.2 = .tc then dutiesOf sm else ∅) = _
  exact if_pos ⟨rfl, rfl⟩
theorem dutiesOf_dma (q : DmaSem sig) (h : 3 ≤ q.val) : dutiesOf (.dma q) = {0} := by
  show (if 3 ≤ q.val then ({0} : Finset (Fin 31)) else ∅) = _
  exact if_pos h
theorem duties_bar (c : Dev nD) : (Rd (F := F) Y).duties (barCell c) 0 = Finset.univ := by
  rw [duties_tc]
  show (if barS = barS then (Finset.univ : Finset (Fin 31)) else ∅) = _
  exact if_pos rfl
theorem duties_send (c : Dev nD) (i : Fin 31) : (Rd (F := F) Y).duties (sendCell c i) 0 = {0} := by
  rw [duties_tc, dutiesOf_dma _ (show 3 ≤ i.val + 3 by omega)]
theorem duties_recv (c : Dev nD) (i : Fin 31) : (Rd (F := F) Y).duties (recvCell c i) 0 = {0} := by
  rw [duties_tc, dutiesOf_dma _ (show 3 ≤ i.val + 34 by omega)]
theorem duties_loc (c : Dev nD) : (Rd (F := F) Y).duties (locCell c) 0 = {0} := by
  rw [duties_tc, dutiesOf_dma _ (by decide)]
theorem duties_later (g : GSem nD τ sig) : ∀ r, 1 ≤ r → (Rd (F := F) Y).duties g r = ∅ :=
  fun r hr => if_neg fun h => by omega

theorem expect_bar (c : Dev nD) : (Rd (F := F) Y).expect (barCell c) 0 = 31 := by
  unfold Schedule.expect Schedule.amountOf
  rw [duties_bar]
  exact (Finset.sum_const 1).trans (by rw [Finset.card_univ, Fintype.card_fin, smul_eq_mul])
theorem expect_dma (c : Dev nD) (q : DmaSem sig) (h : 3 ≤ q.val) :
    (Rd (F := F) Y).expect ((c : Thread nD τ), .dma q) 0 = N := by
  unfold Schedule.expect Schedule.amountOf
  rw [duties_tc, dutiesOf_dma q h]
  exact Finset.sum_singleton _ _

theorem payload_send (c : Dev nD) (i : Fin 31) (d : Fin 31) : (Rd (F := F) Y).payload (sendCell c i) 0 d = sendPay Y c i := by
  show dmaPay Y c (i.val + 3) = _
  unfold dmaPay
  rw [dif_pos ⟨by omega, by have := i.isLt; omega⟩]; rfl
theorem payload_recv (c : Dev nD) (i : Fin 31) (d : Fin 31) : (Rd (F := F) Y).payload (recvCell c i) 0 d = recvPay Y c i := by
  show dmaPay Y c (i.val + 34) = _
  unfold dmaPay
  rw [dif_neg (by omega), dif_pos ⟨by omega, by have := i.isLt; omega⟩]; rfl
theorem payload_loc (c : Dev nD) (d : Fin 31) : (Rd (F := F) Y).payload (locCell c) 0 d = locPay Y c := by
  show dmaPay Y c 65 = _
  unfold dmaPay
  rw [dif_neg (by omega), dif_neg (by omega), if_pos rfl]

/-- What the wait on each cell returns. -/
theorem rest_bar (c : Dev nD) : bigSep ((Rd (F := F) Y).duties (barCell c) 0 \ ∅) (fun d => (Rd (F := F) Y).payload (barCell c) 0 d)
    = bigSep Finset.univ fun i => barPay c i := by
  rw [Finset.sdiff_empty, duties_bar]; rfl
theorem rest_send (c : Dev nD) (i : Fin 31) :
    bigSep ((Rd (F := F) Y).duties (sendCell c i) 0 \ ∅) (fun d => (Rd (F := F) Y).payload (sendCell c i) 0 d) = sendPay Y c i := by
  rw [Finset.sdiff_empty, duties_send, bigSep_singleton, payload_send]
theorem rest_recv (c : Dev nD) (i : Fin 31) :
    bigSep ((Rd (F := F) Y).duties (recvCell c i) 0 \ ∅) (fun d => (Rd (F := F) Y).payload (recvCell c i) 0 d) = recvPay Y c i := by
  rw [Finset.sdiff_empty, duties_recv, bigSep_singleton, payload_recv]
theorem rest_loc (c : Dev nD) :
    bigSep ((Rd (F := F) Y).duties (locCell c) 0 \ ∅) (fun d => (Rd (F := F) Y).payload (locCell c) 0 d) = locPay Y c := by
  rw [Finset.sdiff_empty, duties_loc, bigSep_singleton, payload_loc]

/-! ## The cells' invariants, for all devices -/

/-- Every cell's invariant, and that it has reached its round. -/
def records (K : Dev nD × Fin 64 → ℕ) : sProp 𝕄 :=
  iprop((bigSep Finset.univ fun ck : Dev nD × Fin 64 => cellInv ER (Rd Y) (K ck) (kcell ck))
    ∗ bigSep Finset.univ fun ck : Dev nD × Fin 64 => reached ER (kcell ck) 0)

instance records_persistent (K : Dev nD × Fin 64 → ℕ) : BI.Persistent (records Y K) := by unfold records; infer_instance

theorem inv_at (K : Dev nD × Fin 64 → ℕ) (ck : Dev nD × Fin 64) : records Y K ⊢ cellInv ER (Rd Y) (K ck) (kcell ck) := by
  unfold records
  exact sep_elim_left.trans (bigSep_elim (Finset.mem_univ ck))
theorem reached_at (K : Dev nD × Fin 64 → ℕ) (ck : Dev nD × Fin 64) : records Y K ⊢ reached ER (kcell ck) 0 := by
  unfold records
  exact sep_elim_right.trans (bigSep_elim (Finset.mem_univ ck))

/-! ## What a device owes, and the levels -/

/-- The credits of the copies listed; -/
def OR (c : Dev nD) : List (Fin 31) → CellTallies nD τ sig Unit
  | [] => 0
  | i :: is => OR c is + tallyAt (recvCell (up c i) i) () N
/-- those, and the signals listed. -/
def OB (c : Dev nD) : List (Fin 31) → CellTallies nD τ sig Unit
  | [] => OR c (List.finRange 31)
  | i :: is => OB c is + tallyAt (barCell (up c i)) () 1

def O₀ (c : Dev nD) : CellTallies nD τ sig Unit := OB c (List.finRange 31)

def L (g : GSem nD τ sig) : Finset Unit := if g.1.2 = .tc then {()} else ∅
def lv (g : GSem nD τ sig) (_ : Unit) : ℕ := match g.2 with
  | .reg _ => 1
  | .dma q => if 34 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem OR_pos {c : Dev nD} {g : GSem nD τ sig} {u : Unit} : ∀ is : List (Fin 31), 0 < OR c is g u → ∃ i, g = recvCell (up c i) i
  | [], h => absurd h (Nat.lt_irrefl 0)
  | i :: is, h => by
    unfold OR at h
    rw [Pi.add_apply, Finsupp.add_apply] at h
    rcases Nat.eq_zero_or_pos (OR c is g u) with h0 | hp
    · rw [h0, Nat.zero_add] at h; exact ⟨i, tallyAt_pos h⟩
    · exact OR_pos is hp

theorem OB_pos {c : Dev nD} {g : GSem nD τ sig} {u : Unit} :
    ∀ is : List (Fin 31), 0 < OB c is g u → (∃ i, g = recvCell (up c i) i) ∨ ∃ i, g = barCell (up c i)
  | [], h => Or.inl (OR_pos _ h)
  | i :: is, h => by
    unfold OB at h
    rw [Pi.add_apply, Finsupp.add_apply] at h
    rcases Nat.eq_zero_or_pos (OB c is g u) with h0 | hp
    · rw [h0, Nat.zero_add] at h; exact Or.inr ⟨i, tallyAt_pos h⟩
    · exact OB_pos is hp

theorem lv_recv (c : Dev nD) (i : Fin 31) (u : Unit) : lv (recvCell c i) u = 2 := by
  show (if 34 ≤ i.val + 34 then 2 else 0) = 2
  exact if_pos (Nat.le_add_left 34 _)
theorem lv_bar (c : Dev nD) (u : Unit) : lv (barCell c) u = 1 := rfl

omit [FloatOps F] in
/-- A staging semaphore may be waited for whatever the device owes. -/
theorem mayWait_stage (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos _ hg with ⟨i, rfl⟩ | ⟨i, rfl⟩ <;> exact Finset.mem_singleton_self _)
      (fun p hp => by rw [Finset.mem_singleton.mp hp]; exact Nat.le_of_eq (if_neg (by omega)))
      (fun g u hg => by
        rcases OB_pos _ hg with ⟨i, rfl⟩ | ⟨i, rfl⟩
        · rw [lv_recv]; decide
        · rw [lv_bar]; decide)
  · rw [MayWait_zero]; iintro -; iempintro

omit [FloatOps F] in
/-- The barrier may be waited for while the device owes copies only. -/
theorem mayWait_bar (c : Dev nD) : (levAts L lv : sProp 𝕄) ⊢ MayWait (c : Thread nD τ) (.reg barS) () (OR c (List.finRange 31)) :=
  MayOwe.of_cut (L := L) (lev := lv) 1 (fun p hp => by rw [Finset.mem_singleton.mp hp, L_tc]; exact Finset.mem_singleton_self _)
    (fun g u hg => by rcases OR_pos _ hg with ⟨i, rfl⟩; exact Finset.mem_singleton_self _)
    (fun p hp => by rw [Finset.mem_singleton.mp hp]; exact Nat.le_refl _)
    (fun g u hg => by rcases OR_pos _ hg with ⟨i, rfl⟩; rw [lv_recv]; decide)

end Cert.KernelIdealRun

end
-- ==== Proof.KernelIdealRun.Phases.lean ====
/-
# The loops of the body, one rule each

For each of the four loops: what it needs for the numbers still listed, and what it leaves. Each is proved once, by
induction on the list.
-/
module

public import proofs.«01_k».proof.Proof.KernelIdealRun.Protocol

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s kernel thread. -/
abbrev WP (c : Dev nD) (p : KProg F) (Q : PUnit → sProp 𝕄) : sProp 𝕄 :=
  wp frame (wpE (defs₀ (F := F)) 𝒱₀ (c : Thread nD τ) none) Set.univ p Q

/-! ## A resource for each number of a list -/

def sepL {ι : Type} (Φ : ι → sProp 𝕄) : List ι → sProp 𝕄
  | [] => iprop(emp)
  | i :: is => iprop(Φ i ∗ sepL Φ is)

omit [FloatOps F] in
theorem sepL_eq {ι : Type} [DecidableEq ι] (Φ : ι → sProp 𝕄) : ∀ is : List ι, is.Nodup → sepL Φ is = bigSep is.toFinset Φ
  | [], _ => by rw [List.toFinset_nil, bigSep_empty]; rfl
  | i :: is, h => by
    have hn := List.nodup_cons.mp h
    rw [List.toFinset_cons, bigSep_insert (fun hm => hn.1 (List.mem_toFinset.mp hm)), ← sepL_eq Φ is hn.2]; rfl

omit [FloatOps F] in
theorem sepL_fin {n : ℕ} (Φ : Fin n → sProp 𝕄) : sepL Φ (List.finRange n) = bigSep Finset.univ Φ := by
  rw [sepL_eq Φ _ (List.nodup_finRange n)]
  congr 1
  ext i; simp

/-! ## The signals -/

variable (Y : Dev nD → FVec F S128x2048 .f32) (K : Dev nD × Fin 64 → ℕ)

theorem wp_sigL (c : Dev nD) (k : KProg F) (Q : PUnit → sProp 𝕄) (W : Waits sig Unit) : ∀ is : List (Fin 31),
    iprop(records Y K ∗ owes (c : Thread nD τ) (OB c is) W ∗ sepL (fun i => dutyTok ER (barCell (up c i)) 0 i) is
        ∗ sepL (fun i => iprop(∃ f, oPts (F := F) c (up c i) f)) is)
      ⊢ iprop((owes (c : Thread nD τ) (OR c (List.finRange 31)) W -∗ WP c k Q) -∗ WP c (sigL k (is.map (up c))) Q)
  | [] => by
    iintro ⟨-, HO, -, -⟩ Hk
    iapply Hk; iexact HO
  | i :: is => by
    simp only [List.map_cons, sigL, sepL, OB]
    iintro ⟨#HR, HO, ⟨Ht, Hts⟩, ⟨Hp, Hps⟩⟩ Hk
    iapply (Rounds.wp_signal 𝒱₀ ER (Rd Y) (c : Thread nD τ) none (dst := (up c i : Thread nD τ)) (κ := K (up c i, kB))
      (d := i) (by rw [duties_bar]; exact Finset.mem_univ _) (show 1 = _ by decide) () (OB c is) rfl) $$ [HO Ht Hp]
    · isplitr; · iapply (inv_at Y K (up c i, kB)); iexact HR
      isplitl [HO]; · iexact HO
      isplitl [Ht]; · iexact Ht
      isplitl [Hp]
      · iapply (Entails.of_eq (show iprop(∃ f, oPts (F := F) c (up c i) f) = (Rd (F := F) Y).payload (barCell (up c i)) 0 i from by
          show _ = barPay (up c i) i
          unfold barPay; rw [dn_up]))
        iexact Hp
      · iapply (reached_at Y K (up c i, kB)); iexact HR
    iintro HO
    iapply (wp_sigL c k Q W is) $$ [HO Hts Hps]
    · isplitr; · iexact HR
      isplitl [HO]; · iexact HO
      isplitl [Hts] <;> iassumption
    iexact Hk

/-! ## The stores -/

theorem wp_storeL (c : Dev nD) (y : FVec F S128x2048 .f32) (k : KProg F) (Q : PUnit → sProp 𝕄) :
    ∀ (ts : List (Fin 32)) (f : (cc0_scratch0 : Ref sig .tc).ty.Contents (Elt F)),
      (∀ i : S32x128x64.Idx, (⟨(i 0).val, (i 0).isLt⟩ : Fin 32) ∉ ts → f i = yBuf y i) →
    (((c : Thread nD τ).loc cc0_scratch0) ↦{fullShare} f : sProp 𝕄)
      ⊢ iprop(((((c : Thread nD τ).loc cc0_scratch0) ↦{fullShare} yBuf y) -∗ WP c k Q) -∗ WP c (storeL y k ts) Q)
  | [], f, hf => by
    rw [show f = yBuf y from funext fun i => hf i (List.not_mem_nil)]
    iintro H Hk
    iapply Hk; iexact H
  | t :: ts, f, hf => by
    simp only [storeL]
    iintro H Hk
    iapply (wp_load 𝒱₀ (c : Thread nD τ) none Set.univ (m := yM) (Finset.subset_univ _)) $$ H; iintro H
    iapply (wp_store 𝒱₀ (c : Thread nD τ) none Set.univ (m := yM) (r := yR t) (Mk := Finset.univ) (Finset.subset_univ _)) $$ H; iintro H
    iapply (wp_storeL c y k Q ts _ (fun i hi => by
      rw [write_block]
      by_cases h : (i 0).val = t.val
      · exact if_pos h
      · rw [if_neg h]
        exact hf i fun hm => (List.mem_cons.mp hm).elim (fun e => h (congrArg Fin.val e)) hi)) $$ H
    iexact Hk

/-! ## The sends -/

theorem wp_send1 (c n : Dev nD) (i : Fin 31) (off : Fin 3 → ℕ) (q1 q2 : DmaSem sig) (hn : n = up c i) (hoff : off = k0_off2 (up c i))
    (h1 : q1 = sS i) (h2 : q2 = rS i) {hb : ∀ a, off a + S1x128x64.size a ≤ S32x128x64.size a}
    {hsc : (oB c : Memref sig (Dev.tc n : Thread nD τ).2.kind .vmem S128x64 .f32).view.ref.isScScratch = false}
    {hsrc : (ySlab off hb).view.WordExact} {hdst : (oB c).view.WordExact}
    {hsem : DmaTarget.Typed .vmem (.dma q2) (.remote (Dev.tc n : Thread nD τ) (oB c) (.dma q1) hsc)}
    (k : PUnit → KProg F) (Q : PUnit → sProp 𝕄) (W : Waits sig Unit) (is : List (Fin 31)) :
    iprop(records Y K ∗ owes (c : Thread nD τ) (OR c (i :: is)) W ∗ yPts c (up c i) (yBuf (Y c)) ∗ (∃ f, oPts (F := F) (up c i) c f)
        ∗ dutyTok ER (sendCell c i) 0 0 ∗ dutyTok ER (recvCell (up c i) i) 0 0)
      ⊢ iprop(((cred (tallyAt (sendCell c i) () N) ∗ owes (c : Thread nD τ) (OR c is) W) -∗ WP c (k ⟨⟩) Q)
          -∗ WP c (.op (.enqueueDma (ySlab off hb) (.remote (Dev.tc n : Thread nD τ) (oB c) (.dma q1) hsc) (.dma q2) hsrc hdst hsem) k) Q) := by
  subst hn hoff h1 h2
  iintro ⟨#HR, HO, Hy, ⟨%f, Ho⟩, Ht1, Ht2⟩
  unfold yPts oPts
  iapply (Rounds.wp_send_pointsTo 𝒱₀ ER (Rd Y) (c : Thread nD τ) none (κ₁ := K (c, kS i)) (κ₂ := K (up c i, kR i))
    (r₁ := 0) (r₂ := 0) (d₁ := 0) (d₂ := 0) (fd := f)
    (by rw [duties_send]; exact Finset.mem_singleton_self _) (by rw [duties_recv]; exact Finset.mem_singleton_self _)
    () () N rfl rfl rfl (OR c is) rfl (W := W)
    (by rw [payload_send]; exact BI.Entails.refl _)
    (by
      rw [payload_recv]; unfold recvPay oPts; rw [dn_up]
      exact Entails.of_eq (pointsTo_congr (write_rows (up c i) c Y f)))) $$ [HO Hy Ho Ht1 Ht2]
  isplitr; · iapply (inv_at Y K (c, kS i)); iexact HR
  isplitr; · iapply (inv_at Y K (up c i, kR i)); iexact HR
  isplitl [Hy]; · iexact Hy
  isplitl [Ho]; · iexact Ho
  isplitl [HO]; · iexact HO
  isplitl [Ht1]; · iexact Ht1
  isplitr; · iapply (reached_at Y K (c, kS i)); iexact HR
  isplitl [Ht2]; · iexact Ht2
  iapply (reached_at Y K (up c i, kR i)); iexact HR

/-- What copy `i` of device `c` needs, -/
def sendNeeds (c : Dev nD) (i : Fin 31) : sProp 𝕄 :=
  iprop(yPts c (up c i) (yBuf (Y c)) ∗ (∃ f, oPts (F := F) (up c i) c f)
    ∗ dutyTok ER (sendCell c i) 0 0 ∗ dutyTok ER (recvCell (up c i) i) 0 0)

theorem wp_sendL (c : Dev nD) (k : KProg F) (Q : PUnit → sProp 𝕄) (W : Waits sig Unit) : ∀ is : List (Fin 31),
    iprop(records Y K ∗ owes (c : Thread nD τ) (OR c is) W ∗ sepL (sendNeeds Y c) is)
      ⊢ iprop(((owes (c : Thread nD τ) 0 W ∗ sepL (fun i => cred (tallyAt (sendCell c i) () N)) is) -∗ WP c k Q)
          -∗ WP c (sendL c k (is.map fun i => (up c i, i))) Q)
  | [] => by
    iintro ⟨-, HO, -⟩ Hk
    iapply Hk
    isplitl; · iexact HO
    iempintro
  | i :: is => by
    simp only [List.map_cons, sendL, sepL, sendNeeds]
    iintro ⟨#HR, HO, ⟨Hy, Ho, Ht1, Ht2⟩, Hs⟩ Hk
    iapply (wp_send1 Y K c (up c i) i _ _ _ rfl (off3_eq c i) (sem1_sS i) (sem2_rS i) _ Q W is) $$ [HO Hy Ho Ht1 Ht2]
    · isplitr; · iexact HR
      isplitl [HO]; · iexact HO
      isplitl [Hy]; · iexact Hy
      isplitl [Ho]; · iexact Ho
      isplitl [Ht1] <;> iassumption
    iintro ⟨Hc, HO⟩
    iapply (wp_sendL c k Q W is) $$ [HO Hs]
    · isplitr; · iexact HR
      isplitl [HO]; · iexact HO
      iexact Hs
    iintro ⟨HO, Hcs⟩
    iapply Hk
    isplitl [HO]; · iexact HO
    isplitl [Hc] <;> iassumption

/-! ## The waits -/

/-- What the two waits of number `i` need, -/
def waitNeeds (c : Dev nD) (i : Fin 31) : sProp 𝕄 :=
  iprop(cred (tallyAt (sendCell c i) () N) ∗ cred (tallyAt (recvCell c i) () N)
    ∗ atPos ER (sendCell c i) 0 ∅ 0 ∗ atPos ER (recvCell c i) 0 ∅ 0)
/-- and what they give: both buffers' blocks, and the two counters at zero. -/
def waitGives (c : Dev nD) (i : Fin 31) : sProp 𝕄 :=
  iprop(yPts c (up c i) (yBuf (Y c)) ∗ oPts c (dn c i) (outBuf c Y) ∗ semVal (sendCell c i) 0 ∗ semVal (recvCell c i) 0)

/-- The wait for a DMA semaphore when nothing is owed: the payload, and the counter at zero. -/
theorem wp_wait1 (c : Dev nD) (q q' : DmaSem sig) (kk : Fin 64) (hq : q' = q) (h3 : 3 ≤ q.val) (hk : kcell (c, kk) = ((c : Thread nD τ), .dma q))
    {sp sp' : Space} {s s' : Shape} {e e' : EltTy} {src : Memref sig .tc sp s e} {dst : Memref sig .tc sp' s' e'} {hsrc : src.view.WordExact} {hdst : dst.view.WordExact}
    (hN : dst.view.dmaCredit = N) (P : sProp 𝕄)
    (hP : bigSep ((Rd (F := F) Y).duties ((c : Thread nD τ), .dma q) 0 \ ∅) (fun d => (Rd (F := F) Y).payload ((c : Thread nD τ), .dma q) 0 d) = P)
    (k : PUnit → KProg F) (Q : PUnit → sProp 𝕄) (W : Waits sig Unit) :
    iprop(records Y K ∗ cred (tallyAt ((c : Thread nD τ), .dma q) () N) ∗ owes (c : Thread nD τ) 0 W ∗ atPos ER ((c : Thread nD τ), .dma q) 0 ∅ 0)
      ⊢ iprop((((∃ W', owes (c : Thread nD τ) 0 W') ∗ P ∗ semVal ((c : Thread nD τ), .dma q) 0) -∗ WP c (k ⟨⟩) Q)
          -∗ WP c (.op (.waitDma2 q' src dst hsrc hdst) k) Q) := by
  subst hq
  have hi := inv_at Y K (c, kk)
  rw [hk] at hi
  iintro ⟨#HR, Hc, HO, Hat⟩ Hk
  iapply (Rounds.wp_wait_rest_token 𝒱₀ ER (Rd Y) (c : Thread nD τ) none (κ := K (c, kk))
      (wpE_waitDma2_eq 𝒱₀ (c : Thread nD τ) none Set.univ) (Set.mem_univ _) () (O := 0) (W := W) (R := 0) (m := 0) (T := ∅)
      (by rw [Nat.zero_add, expect_dma Y c _ h3]; exact hN)) $$ [Hc HO Hat]
  · isplitr; · iapply hi; iexact HR
    isplitl [Hc]; · rw [hN]; iexact Hc
    isplitl [HO]; · iexact HO
    isplitr; · rw [MayWait_zero]; iempintro
    iexact Hat
  iintro ⟨HO, Hat, -, Hpay⟩
  imod (Rounds.cell_close ER (Rd Y) (Set.mem_univ (K (c, kk))) (fun h => h) (R := 0 + 1) (duties_later Y ((c : Thread nD τ), .dma q'))) $$ [Hat] with Hz
  · isplitr; · iapply hi; iexact HR
    iexact Hat
  iapply Hk
  isplitl [HO]; · iexists _; iexact HO
  isplitl [Hpay]; · iapply (Entails.of_eq hP); iexact Hpay
  iexact Hz

theorem credit_y0 : (y0 : Memref sig .tc .vmem S128x64 .f32).view.dmaCredit = N := by
  unfold N View.dmaCredit; rfl
theorem credit_o0 : (o0 : Memref sig .tc .vmem S128x64 .f32).view.dmaCredit = N := by
  unfold N View.dmaCredit; rfl

theorem wp_waitL (c : Dev nD) (k : KProg F) (Q : PUnit → sProp 𝕄) : ∀ is : List (Fin 31),
    iprop(records Y K ∗ (∃ W, owes (c : Thread nD τ) 0 W) ∗ sepL (waitNeeds (F := F) c) is)
      ⊢ iprop((((∃ W, owes (c : Thread nD τ) 0 W) ∗ sepL (waitGives Y c) is) -∗ WP c k Q) -∗ WP c (waitL k is) Q)
  | [] => by
    iintro ⟨-, HO, -⟩ Hk
    iapply Hk
    isplitl; · iexact HO
    iempintro
  | i :: is => by
    simp only [waitL, sepL, waitNeeds, waitGives]
    iintro ⟨#HR, ⟨%W, HO⟩, ⟨Hc1, Hc2, Ha1, Ha2⟩, Hs⟩ Hk
    iapply (wp_wait1 Y K c (sS i) _ (kS i) (sem1_sS i) (show 3 ≤ i.val + 3 by omega) (kcell_send c i) credit_y0 _ (rest_send Y c i) _ Q W) $$ [HO Hc1 Ha1]
    · isplitr; · iexact HR
      isplitl [Hc1]; · iexact Hc1
      isplitl [HO] <;> iassumption
    iintro ⟨⟨%W1, HO⟩, Hy, Hz1⟩
    iapply (wp_wait1 Y K c (rS i) _ (kR i) (sem2_rS i) (show 3 ≤ i.val + 34 by omega) (kcell_recv c i) credit_o0 _ (rest_recv Y c i) _ Q W1) $$ [HO Hc2 Ha2]
    · isplitr; · iexact HR
      isplitl [Hc2]; · iexact Hc2
      isplitl [HO] <;> iassumption
    iintro ⟨HO, Ho, Hz2⟩
    iapply (wp_waitL c k Q is) $$ [HO Hs]
    · isplitr; · iexact HR
      isplitl [HO]; · iexact HO
      iexact Hs
    iintro ⟨HO, Hgs⟩
    iapply Hk
    isplitl [HO]; · iexact HO
    isplitr [Hgs]
    · unfold sendPay recvPay
      isplitl [Hy]; · iexact Hy
      isplitl [Ho]; · iexact Ho
      isplitl [Hz1] <;> iassumption
    iexact Hgs

end Cert.KernelIdealRun

end
-- ==== Proof.KernelIdealRun.Body.lean ====
/-
# The body

From a device's share of the protocol's ghost state, its two staged inputs and any contents of the result's staging
buffer and of the scratch buffer, the body leaves the device's result in the staging buffer, every counter at zero, and
the inputs as they were.
-/
module

public import proofs.«01_k».proof.Proof.KernelIdealRun.Phases
public import Idealize.ShloMosaic.Lib.Ring

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A whole buffer and its blocks -/

omit [FloatOps F] in
theorem bigSep_others (c : Dev nD) (Φ : Dev nD → sProp 𝕄) : bigSep Finset.univ Φ = iprop(Φ c ∗ bigSep Finset.univ fun i => Φ (up c i)) := by
  rw [bigSep_univ_at Φ c, erase_up, bigSep_map]; rfl
omit [FloatOps F] in
theorem bigSep_others' (c : Dev nD) (Φ : Dev nD → sProp 𝕄) : bigSep Finset.univ Φ = iprop(Φ c ∗ bigSep Finset.univ fun i => Φ (dn c i)) := by
  rw [bigSep_univ_at Φ c, erase_dn, bigSep_map]; rfl

omit [FloatOps F] in
theorem out_blocks (c : Dev nD) (f : (cc0_stg2_0 : Ref sig .tc).ty.Contents (Elt F)) :
    (((c : Thread nD τ).loc cc0_stg2_0) ↦{fullShare} f : sProp 𝕄) = bigSep Finset.univ fun p => oPts c p f :=
  Ring.pointsTo_blocks (ℓ := (c : Thread nD τ).loc cc0_stg2_0) oI oB_disjoint oB_cover f
omit [FloatOps F] in
theorem scratch_blocks (c : Dev nD) (f : (cc0_scratch0 : Ref sig .tc).ty.Contents (Elt F)) :
    (((c : Thread nD τ).loc cc0_scratch0) ↦{fullShare} f : sProp 𝕄) = bigSep Finset.univ fun t => yPts c t f :=
  Ring.pointsTo_blocks (ℓ := (c : Thread nD τ).loc cc0_scratch0) yI yB_disjoint yB_cover f

/-! ## The copy into the device's own result -/

variable (Y : Dev nD → FVec F S128x2048 .f32) (K : Dev nD × Fin 64 → ℕ)

theorem wp_copy1 (c : Dev nD) (q : DmaSem sig) (hq : q = lS) {hsrc : (yB c).view.WordExact} {hdst : (oB c).view.WordExact}
    {hsem : DmaTarget.Typed (nD := nD) (τ := τ) (sig := sig) (p := .tc) .vmem (.dma q) (.here (oB c))}
    (k : PUnit → KProg F) (Q : PUnit → sProp 𝕄) (f : (cc0_stg2_0 : Ref sig .tc).ty.Contents (Elt F)) :
    iprop(records Y K ∗ yPts c c (yBuf (Y c)) ∗ oPts c c f ∗ dutyTok ER (locCell c) 0 0)
      ⊢ iprop((cred (tallyAt (locCell c) () N) -∗ WP c (k ⟨⟩) Q)
          -∗ WP c (.op (.enqueueDma (yB c) (.here (oB c)) (.dma q) hsrc hdst hsem) k) Q) := by
  subst hq
  iintro ⟨#HR, Hy, Ho, Ht⟩
  unfold yPts oPts
  iapply (Rounds.wp_copy_pointsTo 𝒱₀ ER (Rd Y) (c : Thread nD τ) none (κ := K (c, kL)) (r := 0) (d := 0) (fd := f)
    (by rw [duties_loc]; exact Finset.mem_singleton_self _) () N rfl rfl
    (by
      rw [payload_loc]; unfold locPay oPts yPts
      exact sep_mono_left (Entails.of_eq (pointsTo_congr (write_rows c c Y f))))) $$ [Hy Ho Ht]
  isplitr; · iapply (inv_at Y K (c, kL)); iexact HR
  isplitl [Hy]; · iexact Hy
  isplitl [Ho]; · iexact Ho
  isplitl [Ht]; · iexact Ht
  iapply (reached_at Y K (c, kL)); iexact HR

/-! ## After the stores -/

/-- The ghost state of device `c`: the cells' invariants, its positions in its own 64 cells, and the tokens of the duties
    that it pays. -/
def ghost (c : Dev nD) : sProp 𝕄 :=
  iprop(records Y K ∗ atPos ER (barCell c) 0 ∅ 0 ∗ atPos ER (locCell c) 0 ∅ 0
    ∗ (bigSep Finset.univ fun i => atPos ER (sendCell c i) 0 ∅ 0) ∗ (bigSep Finset.univ fun i => atPos ER (recvCell c i) 0 ∅ 0)
    ∗ (bigSep Finset.univ fun i => dutyTok ER (barCell (up c i)) 0 i) ∗ (bigSep Finset.univ fun i => dutyTok ER (sendCell c i) 0 0)
    ∗ (bigSep Finset.univ fun i => dutyTok ER (recvCell (up c i) i) 0 0) ∗ dutyTok ER (locCell c) 0 0)

/-- What the exchange gives: the result and the scratch buffer, and the counters at zero. -/
def yields (c : Dev nD) : sProp 𝕄 :=
  iprop((∃ W, owes (c : Thread nD τ) 0 W) ∗ (((c : Thread nD τ).loc cc0_stg2_0) ↦{fullShare} outBuf c Y)
    ∗ (((c : Thread nD τ).loc cc0_scratch0) ↦{fullShare} yBuf (Y c))
    ∗ semVal (barCell c) 0 ∗ semVal (locCell c) 0 ∗ (bigSep Finset.univ fun i => semVal (sendCell c i) 0)
    ∗ (bigSep Finset.univ fun i => semVal (recvCell c i) 0))

theorem sendNeeds_all (c : Dev nD) : sepL (sendNeeds Y c) (List.finRange 31)
    = iprop((bigSep Finset.univ fun i => yPts c (up c i) (yBuf (Y c))) ∗ (bigSep Finset.univ fun i => iprop(∃ f, oPts (F := F) (up c i) c f))
      ∗ (bigSep Finset.univ fun i => dutyTok ER (sendCell c i) 0 0) ∗ (bigSep Finset.univ fun i => dutyTok ER (recvCell (up c i) i) 0 0)) := by
  rw [sepL_fin]; unfold sendNeeds; rw [bigSep_sep', bigSep_sep', bigSep_sep']
theorem waitNeeds_all (c : Dev nD) : sepL (waitNeeds (F := F) c) (List.finRange 31)
    = iprop((bigSep Finset.univ fun i => cred (tallyAt (sendCell c i) () N)) ∗ (bigSep Finset.univ fun i => cred (tallyAt (recvCell c i) () N))
      ∗ (bigSep Finset.univ fun i => atPos ER (sendCell c i) 0 ∅ 0) ∗ (bigSep Finset.univ fun i => atPos ER (recvCell c i) 0 ∅ 0)) := by
  rw [sepL_fin]; unfold waitNeeds; rw [bigSep_sep', bigSep_sep', bigSep_sep']
theorem waitGives_all (c : Dev nD) : sepL (waitGives Y c) (List.finRange 31)
    = iprop((bigSep Finset.univ fun i => yPts c (up c i) (yBuf (Y c))) ∗ (bigSep Finset.univ fun i => oPts c (dn c i) (outBuf c Y))
      ∗ (bigSep Finset.univ fun i => semVal (sendCell c i) 0) ∗ (bigSep Finset.univ fun i => semVal (recvCell c i) 0)) := by
  rw [sepL_fin]; unfold waitGives; rw [bigSep_sep', bigSep_sep', bigSep_sep']

/-- The barrier's payloads, numbered by the copies that they are for. -/
theorem barPays (c : Dev nD) : (bigSep Finset.univ fun i => barPay (F := F) c i)
    = bigSep Finset.univ fun i => iprop(∃ f, oPts (F := F) (up c i) c f) := by
  rw [bigSep_univ_equiv Fin.revPerm (fun i => barPay (F := F) c i)]
  refine bigSep_congr fun i _ => ?_
  show barPay c (Fin.rev i) = _
  unfold barPay; rw [dn_rev]

set_option maxHeartbeats 800000 in
theorem wp_exchange (c : Dev nD) (Q : PUnit → sProp 𝕄) (W : Waits sig Unit) (f : (cc0_stg2_0 : Ref sig .tc).ty.Contents (Elt F)) :
    iprop(records Y K ∗ levAts L lv ∗ owes (c : Thread nD τ) (OR c (List.finRange 31)) W
        ∗ cred (tallyAt (barCell c) () 31) ∗ atPos ER (barCell c) 0 ∅ 0 ∗ atPos ER (locCell c) 0 ∅ 0 ∗ dutyTok ER (locCell c) 0 0
        ∗ oPts c c f ∗ (((c : Thread nD τ).loc cc0_scratch0) ↦{fullShare} yBuf (Y c))
        ∗ (bigSep Finset.univ fun i => dutyTok ER (sendCell c i) 0 0) ∗ (bigSep Finset.univ fun i => dutyTok ER (recvCell (up c i) i) 0 0)
        ∗ (bigSep Finset.univ fun i => cred (tallyAt (recvCell c i) () N))
        ∗ (bigSep Finset.univ fun i => atPos ER (sendCell c i) 0 ∅ 0) ∗ (bigSep Finset.univ fun i => atPos ER (recvCell c i) 0 ∅ 0))
      ⊢ iprop((yields Y c -∗ Q ⟨⟩) -∗ WP c (exchange c) Q) := by
  unfold exchange
  rw [sendDevs_eq]
  iintro ⟨#HR, #Hlev, HO, HcB, HaB, HaL, HtL, Ho, Hscr, HtS, HtR, HcR, HaS, HaR⟩ Hk
  -- the barrier
  iapply (Rounds.wp_wait_rest_token 𝒱₀ ER (Rd Y) (c : Thread nD τ) none (κ := K (c, kB))
      (wpE_semWait_eq 𝒱₀ (c : Thread nD τ) none Set.univ) (Set.mem_univ _) () (O := OR c (List.finRange 31)) (W := W) (R := 0) (m := 0) (T := ∅)
      (by rw [expect_bar]; decide)) $$ [HcB HO HaB]
  · isplitr; · iapply (inv_at Y K (c, kB)); iexact HR
    isplitl [HcB]; · iexact HcB
    isplitl [HO]; · iexact HO
    isplitr; · iapply (mayWait_bar c); iexact Hlev
    iexact HaB
  iintro ⟨HO, HaB, -, Hpay⟩
  ihave Hrows := (Entails.of_eq ((rest_bar Y c).trans (barPays c))) $$ Hpay
  imod (Rounds.cell_close ER (Rd Y) (Set.mem_univ (K (c, kB))) (fun h => h) (R := 0 + 1) (duties_later Y (barCell c))) $$ [HaB] with HzB
  · isplitr; · iapply (inv_at Y K (c, kB)); iexact HR
    iexact HaB
  -- the scratch buffer in blocks, the device's own first
  ihave Hscr' := (Entails.of_eq ((scratch_blocks c (yBuf (Y c))).trans (bigSep_others c _))) $$ Hscr
  icases Hscr' with ⟨Hy, Hys⟩
  iapply (wp_copy1 Y K c _ sem3_eq _ Q f) $$ [Hy Ho HtL]
  · isplitr; · iexact HR
    isplitl [Hy]; · iexact Hy
    isplitl [Ho] <;> iassumption
  iintro HcL
  -- the sends
  iapply (wp_sendL Y K c _ Q _ (List.finRange 31)) $$ [HO Hys Hrows HtS HtR]
  · isplitr; · iexact HR
    isplitl [HO]; · iexact HO
    iapply (Entails.of_eq (sendNeeds_all Y c).symm)
    isplitl [Hys]; · iexact Hys
    isplitl [Hrows]; · iexact Hrows
    isplitl [HtS] <;> iassumption
  iintro ⟨HO, HcS⟩
  -- the waits
  iapply (wp_wait1 Y K c lS _ kL sem3_eq (by decide) (kcell_loc c) credit_o0 _ (rest_loc Y c) _ Q _) $$ [HO HcL HaL]
  · isplitr; · iexact HR
    isplitl [HcL]; · iexact HcL
    isplitl [HO] <;> iassumption
  unfold locPay
  iintro ⟨HO, ⟨Ho, Hy⟩, HzL⟩
  iapply (wp_waitL Y K c _ Q (List.finRange 31)) $$ [HO HcS HcR HaS HaR]
  · isplitr; · iexact HR
    isplitl [HO]; · iexact HO
    iapply (Entails.of_eq (waitNeeds_all (F := F) c).symm)
    isplitl [HcS]; · iapply (Entails.of_eq (sepL_fin (F := F) _)); iexact HcS
    isplitl [HcR]; · iexact HcR
    isplitl [HaS] <;> iassumption
  iintro ⟨HO, Hg⟩
  ihave Hg' := (Entails.of_eq (waitGives_all Y c)) $$ Hg
  icases Hg' with ⟨Hys, Hos, HzS, HzR⟩
  unfold WP
  rw [wp_ret]; imodintro
  iapply Hk
  unfold yields
  isplitl [HO]; · iexact HO
  isplitl [Ho Hos]
  · iapply (Entails.of_eq ((out_blocks c (outBuf c Y)).trans (bigSep_others' c _)).symm)
    isplitl [Ho] <;> iassumption
  isplitl [Hy Hys]
  · iapply (Entails.of_eq ((scratch_blocks c (yBuf (Y c))).trans (bigSep_others c _)).symm)
    isplitl [Hy] <;> iassumption
  isplitl [HzB]; · iexact HzB
  isplitl [HzL]; · iexact HzL
  isplitl [HzS] <;> iassumption

/-! ## The whole body -/

omit [FloatOps F] in
theorem hz : (![0, 0] : Fin 2 → Nat) = fun _ => 0 := funext fun a => by fin_cases a <;> rfl
omit [FloatOps F] in
theorem read_x (f : (cc0_stg0_0 : Ref sig .tc).ty.Contents (Elt F)) : xM.view.readAt (Elt F) xR.toLoadRect f = f :=
  Memref.readAt_unit_zero (Elt F) cc0_stg0_0 hz _ f
omit [FloatOps F] in
theorem read_w (f : (cc0_stg1_0 : Ref sig .tc).ty.Contents (Elt F)) : wM.view.readAt (Elt F) wR.toLoadRect f = f :=
  Memref.readAt_unit_zero (Elt F) cc0_stg1_0 hz _ f

set_option maxHeartbeats 800000 in
theorem wp_canon (c : Dev nD) (Q : PUnit → sProp 𝕄) (W : Waits sig Unit) (x : (cc0_stg0_0 : Ref sig .tc).ty.Contents (Elt F))
    (w : (cc0_stg1_0 : Ref sig .tc).ty.Contents (Elt F)) (hY : Y c = k0_pay1 x w)
    (f : (cc0_stg2_0 : Ref sig .tc).ty.Contents (Elt F)) (g : (cc0_scratch0 : Ref sig .tc).ty.Contents (Elt F)) :
    iprop(ghost Y K c ∗ levAts L lv ∗ owes (c : Thread nD τ) (O₀ c) W
        ∗ cred (tallyAt (barCell c) () 31) ∗ (bigSep Finset.univ fun i => cred (tallyAt (recvCell c i) () N))
        ∗ (((c : Thread nD τ).loc cc0_stg0_0) ↦{fullShare} x) ∗ (((c : Thread nD τ).loc cc0_stg1_0) ↦{fullShare} w)
        ∗ (((c : Thread nD τ).loc cc0_stg2_0) ↦{fullShare} f) ∗ (((c : Thread nD τ).loc cc0_scratch0) ↦{fullShare} g))
      ⊢ iprop(((yields Y c ∗ (((c : Thread nD τ).loc cc0_stg0_0) ↦{fullShare} x) ∗ (((c : Thread nD τ).loc cc0_stg1_0) ↦{fullShare} w)) -∗ Q ⟨⟩)
        -∗ WP c (canon c) Q) := by
  unfold canon ghost
  rw [sigDevs_eq]
  iintro ⟨⟨#HR, HaB, HaL, HaS, HaR, HtB, HtS, HtR, HtL⟩, #Hlev, HO, HcB, HcR, Hx, Hw, Hout, Hscr⟩ Hk
  ihave Hout' := (Entails.of_eq ((out_blocks c f).trans (bigSep_others c _))) $$ Hout
  icases Hout' with ⟨Ho, Hos⟩
  unfold O₀
  iapply (wp_sigL Y K c _ Q W (List.finRange 31)) $$ [HO HtB Hos]
  · isplitr; · iexact HR
    isplitl [HO]; · iexact HO
    isplitl [HtB]; · iapply (Entails.of_eq (sepL_fin (F := F) _).symm); iexact HtB
    iapply (Entails.of_eq (sepL_fin (F := F) _).symm)
    iapply (show (bigSep Finset.univ fun i => oPts (F := F) c (up c i) f) ⊢ bigSep Finset.univ fun i => iprop(∃ f, oPts (F := F) c (up c i) f) from
      bigSep_mono fun i _ => show oPts (F := F) c (up c i) f ⊢ iprop(∃ f, oPts (F := F) c (up c i) f) from by iintro H; iexists f; iexact H)
    iexact Hos
  iintro HO
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w, ← hY]
  iapply (wp_storeL c (Y c) _ Q (List.finRange 32) g (fun i hi => absurd (List.mem_finRange _) hi)) $$ Hscr
  iintro Hscr
  iapply (wp_exchange Y K c Q W f) $$ [HO HcB HaB HaL HtL Ho Hscr HtS HtR HcR HaS HaR]
  · isplitr; · iexact HR
    isplitr; · iexact Hlev
    isplitl [HO]; · iexact HO
    isplitl [HcB]; · iexact HcB
    isplitl [HaB]; · iexact HaB
    isplitl [HaL]; · iexact HaL
    isplitl [HtL]; · iexact HtL
    isplitl [Ho]; · iexact Ho
    isplitl [Hscr]; · iexact Hscr
    isplitl [HtS]; · iexact HtS
    isplitl [HtR]; · iexact HtR
    isplitl [HcR]; · iexact HcR
    isplitl [HaS] <;> iassumption
  iintro Hg
  iapply Hk
  isplitl [Hg]; · iexact Hg
  isplitl [Hx] <;> iassumption

end Cert.KernelIdealRun

end
-- ==== Proof.KernelIdealRun.Launch.lean ====
/-
# The launch's ghost state

What the launch deals every device: the 64 cells' invariants, their positions, and the tokens of the duties that the
device pays; and the credit that matches what all devices owe a device's cells.
-/
module

public import proofs.«01_k».proof.Proof.KernelIdealRun.Body

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The 64 cells -/

theorem ownSemFacts : Pipeline.OwnSemFacts cfg0.spec osem := by decide +kernel

theorem csem_injective : Function.Injective csem := by
  rintro ⟨_ | a, ha⟩ ⟨_ | b, hb⟩ h
  · rfl
  · cases h
  · cases h
  · have h' : a + 3 = b + 3 := congrArg (fun s : SemLoc sig => match s with | .dma q => q.val | .reg _ => 0) h
    exact Fin.ext (by show a + 1 = b + 1; omega)
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-- The cells in order: the barrier, then a device's own 63; -/
theorem bigSep_cells {M : Type} [URA M] (Φ : Fin 64 → sProp M) :
    bigSep Finset.univ Φ = iprop(Φ kB ∗ bigSep Finset.univ fun k : Fin 63 => Φ k.succ) := by
  rw [bigSep_univ_at Φ kB, show Finset.univ.erase kB = Finset.univ.map (Fin.succEmb 63) from by decide +kernel, bigSep_map]
  rfl
/-- of those, the local one, the send and the receive semaphores. -/
theorem bigSep_own {M : Type} [URA M] (Φ : Fin 63 → sProp M) :
    bigSep Finset.univ Φ = iprop(Φ ⟨62, by decide⟩ ∗ (bigSep Finset.univ fun i : Fin 31 => Φ ⟨i.val, by have := i.isLt; omega⟩)
      ∗ bigSep Finset.univ fun i : Fin 31 => Φ ⟨i.val + 31, by have := i.isLt; omega⟩) := by
  rw [bigSep_univ_at Φ ⟨62, by decide⟩,
    show Finset.univ.erase (⟨62, by decide⟩ : Fin 63)
      = Finset.univ.map ⟨fun i : Fin 31 => (⟨i.val, by have := i.isLt; omega⟩ : Fin 63), fun i j h => Fin.ext (Fin.mk.inj h)⟩
        ∪ Finset.univ.map ⟨fun i : Fin 31 => (⟨i.val + 31, by have := i.isLt; omega⟩ : Fin 63),
            fun i j h => Fin.ext (Nat.add_right_cancel (Fin.mk.inj h))⟩ from by decide +kernel,
    bigSep_union (by decide +kernel), bigSep_map, bigSep_map]
  rfl

def allCells : Finset (GSem nD τ sig) := Finset.univ.map ⟨kcell, kcell_injective⟩

/-- The tokens as minted, of a device's own cells: its barrier's 31 duties and one duty of each other cell. -/
abbrev tokOf (cj : Dev nD × (Fin 31 ⊕ Fin 63)) : GSem nD τ sig × ℕ × Fin 31 := match cj.2 with
  | .inl i => (barCell cj.1, 0, i)
  | .inr k => (kcell (cj.1, k.succ), 0, 0)
theorem tokOf_injective : Function.Injective tokOf := by
  rintro ⟨c, j⟩ ⟨c', j'⟩ h
  have h1 : c = c' := by
    have := congrArg (fun x : GSem nD τ sig × ℕ × Fin 31 => x.1.1.1) h
    rcases j with _ | _ <;> rcases j' with _ | _ <;> exact this
  subst h1
  rcases j with i | k <;> rcases j' with i' | k'
  · rw [show i = i' from congrArg (fun x : GSem nD τ sig × ℕ × Fin 31 => x.2.2) h]
  · have h' : csem kB = csem k'.succ := congrArg (fun x : GSem nD τ sig × ℕ × Fin 31 => x.1.2) h
    exact absurd (csem_injective h') (Fin.succ_ne_zero k').symm
  · have h' : csem k.succ = csem kB := congrArg (fun x : GSem nD τ sig × ℕ × Fin 31 => x.1.2) h
    exact absurd (csem_injective h') (Fin.succ_ne_zero k)
  · have h' : csem k.succ = csem k'.succ := congrArg (fun x : GSem nD τ sig × ℕ × Fin 31 => x.1.2) h
    rw [Fin.succ_injective _ (csem_injective h')]
def allToks : Finset (GSem nD τ sig × ℕ × Fin 31) := Finset.univ.map ⟨tokOf, tokOf_injective⟩

def u₀ : UU :=
  (initOf (Pipeline.cells cfgs cellOf_inj) (Pipeline.launchToks cfgs cellOf_inj), initOf allCells allToks)

/-- The tokens of device `c`'s own cells; -/
def toks (c : Dev nD) : sProp 𝕄 :=
  iprop((bigSep Finset.univ fun i : Fin 31 => dutyTok ER (barCell c) 0 i)
    ∗ dutyTok ER (locCell c) 0 0 ∗ (bigSep Finset.univ fun i : Fin 31 => dutyTok ER (sendCell c i) 0 0)
    ∗ bigSep Finset.univ fun i : Fin 31 => dutyTok ER (recvCell c i) 0 0)
/-- those of the duties that device `c` pays. -/
def payToks (c : Dev nD) : sProp 𝕄 :=
  iprop((bigSep Finset.univ fun i : Fin 31 => dutyTok ER (barCell (up c i)) 0 i)
    ∗ dutyTok ER (locCell c) 0 0 ∗ (bigSep Finset.univ fun i : Fin 31 => dutyTok ER (sendCell c i) 0 0)
    ∗ bigSep Finset.univ fun i : Fin 31 => dutyTok ER (recvCell (up c i) i) 0 0)

/-- The pairs `(up c i, i)` are all pairs; -/
def around : Dev nD × Fin 31 ≃ Dev nD × Fin 31 :=
  ⟨fun x => (up x.1 x.2, x.2), fun x => (dn x.1 x.2, x.2), fun x => Prod.ext (dn_up x.1 x.2) rfl, fun x => Prod.ext (up_dn x.1 x.2) rfl⟩
omit [FloatOps F] in
/-- so a sum over devices and distances may be dealt around. -/
theorem bigSep_around (Φ : Dev nD → Fin 31 → sProp 𝕄) :
    (bigSep Finset.univ fun c => bigSep Finset.univ fun i => Φ c i) = bigSep Finset.univ fun c => bigSep Finset.univ fun i => Φ (up c i) i := by
  rw [← bigSep_univ_prod fun x : Dev nD × Fin 31 => Φ x.1 x.2, bigSep_univ_equiv around, bigSep_univ_prod]; rfl

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    bigSep_around (F := F) fun c i => dutyTok ER (barCell c) 0 i, bigSep_around (F := F) fun c i => dutyTok ER (recvCell c i) 0 0]

omit [FloatOps F] in
theorem toks_eq (c : Dev nD) : (bigSep Finset.univ fun j : Fin 31 ⊕ Fin 63 => (dutyTok ER (tokOf (c, j)).1 (tokOf (c, j)).2.1 (tokOf (c, j)).2.2 : sProp 𝕄))
    = toks c := by
  rw [bigSep_univ_sum, bigSep_own]; rfl

variable (Y : Dev nD → FVec F S128x2048 .f32)

/-! ## The deal -/

/-- What the launch element gives device `c`; -/
def G (c : Dev nD) : sProp 𝕄 :=
  iprop((bigSep Finset.univ fun k : Fin 64 => roundState ER (Rd Y) (kcell (c, k)) 0)
    ∗ (bigSep Finset.univ fun k : Fin 64 => iprop(atPos ER (kcell (c, k)) 0 ∅ 0 ∗ reached ER (kcell (c, k)) 0)) ∗ toks c)
/-- what its body starts from. -/
def G' (c : Dev nD) : sProp 𝕄 := iprop(∃ K, ghost Y K c)

theorem fund_all : BI.own (ER (initOf allCells allToks)) ⊢ (|==> bigSep Finset.univ (G Y) : sProp 𝕄) := by
  have hX (Φ : GSem nD τ sig → sProp 𝕄) : bigSep allCells Φ = bigSep Finset.univ fun c : Dev nD => bigSep Finset.univ fun k : Fin 64 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd Y) allCells allToks) $$ HX with ⟨Hst, Hr, Hat, Htok⟩
  imodintro
  ihave Hst' := (Entails.of_eq (hX fun g => roundState ER (Rd Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's own semaphores; -/
theorem ownSems0_eq (c : Dev nD) : (Pipeline.ownSems0 (Ix := Unit) (Name := ℕ) (U := UU) (Lvl := ℕ) (Val := Elt F) (τ := τ) osem c : sProp 𝕄)
    = iprop(semVal (locCell c) 0 ∗ (bigSep Finset.univ fun i => semVal (sendCell c i) 0) ∗ bigSep Finset.univ fun i => semVal (recvCell c i) 0) := by
  unfold Pipeline.ownSems0; rw [bigSep_own]; rfl
omit [FloatOps F] in
/-- the barrier is the one that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 64 => semVal (kcell (c, k)) 0 : sProp 𝕄) := by
  rw [bigSep_cells, unscopedSems0_eq]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G Y c)
      ⊢ |={Set.univ}=> iprop((bigSep Finset.univ fun k => iprop(∃ κ : ℕ, cellInv ER (Rd Y) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 64 => semVal (kcell (c, k)) 0) ∗ bigSep Finset.univ fun k : Fin 64 => roundState ER (Rd Y) (kcell (c, k)) 0)
      ⊢ (|={Set.univ}=> bigSep Finset.univ fun k => iprop(∃ κ : ℕ, cellInv ER (Rd Y) κ (kcell (c, k))) : sProp 𝕄) from by
        rw [← bigSep_sep']
        exact (bigSep_mono fun k _ => (Rounds.body_intro ER (Rd Y) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What device `c` holds besides the shared records. -/
def linear (c : Dev nD) : sProp 𝕄 :=
  iprop((bigSep Finset.univ fun k : Fin 64 => atPos ER (kcell (c, k)) 0 ∅ 0) ∗ payToks c)

theorem ghost_intro (K : Dev nD × Fin 64 → ℕ) (c : Dev nD) : iprop(records Y K ∗ linear c) ⊢ G' Y c := by
  unfold linear payToks G' ghost
  rw [bigSep_cells, bigSep_own]
  iintro ⟨HR, ⟨HaB, HaL, HaS, HaV⟩, HtB, HtL, HtS, HtV⟩
  iexists K
  isplitl [HR]; · iexact HR
  isplitl [HaB]; · iexact HaB
  isplitl [HaL]; · iexact HaL
  isplitl [HaS]; · iexact HaS
  isplitl [HaV]; · iexact HaV
  isplitl [HtB]; · iexact HtB
  isplitl [HtS]; · iexact HtS
  isplitl [HtV]; · iexact HtV
  iexact HtL

theorem regroup :
    (bigSep Finset.univ fun c : Dev nD => iprop((bigSep Finset.univ fun k => iprop(∃ κ : ℕ, cellInv ER (Rd Y) κ (kcell (c, k))))
          ∗ (bigSep Finset.univ fun k => iprop(atPos ER (kcell (c, k)) 0 ∅ 0 ∗ reached ER (kcell (c, k)) 0)) ∗ toks c) : sProp 𝕄)
      ⊢ bigSep Finset.univ (G' Y) := by
  rw [bigSep_sep', bigSep_sep', ← bigSep_univ_prod (fun ck : Dev nD × Fin 64 => iprop(∃ κ : ℕ, cellInv ER (Rd Y) κ (kcell ck))),
    bigSep_congr (s := Finset.univ) (fun (c : Dev nD) _ => bigSep_sep' Finset.univ (fun k : Fin 64 => (atPos ER (kcell (c, k)) 0 ∅ 0 : sProp 𝕄)) (fun k => reached ER (kcell (c, k)) 0)),
    bigSep_sep', ← bigSep_univ_prod (fun ck : Dev nD × Fin 64 => (reached ER (kcell ck) 0 : sProp 𝕄)), toks_around]
  iintro ⟨HI, ⟨Hat, #HR⟩, Htok⟩
  ihave HK := (BI.bigSep_exists_pi Finset.univ (fun (ck : Dev nD × Fin 64) (κ : ℕ) => (cellInv ER (Rd Y) κ (kcell ck) : sProp 𝕄))) $$ HI
  icases HK with ⟨%K, #HI⟩
  iapply (show iprop(records Y K ∗ bigSep Finset.univ linear) ⊢ bigSep Finset.univ (G' Y) from
    (sep_mono_left (BI.bigSep_of_persistent Finset.univ (records Y K))).trans (by rw [← bigSep_sep']; exact bigSep_mono fun c _ => ghost_intro Y K c))
  isplitr
  · unfold records; isplitl; · iexact HI
    iexact HR
  · unfold linear; rw [bigSep_sep']
    isplitl [Hat]; · iexact Hat
    iexact Htok

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G Y c) : sProp 𝕄)
    ⊢ |={Set.univ}=> bigSep Finset.univ (G' Y) :=
  ((bigSep_mono fun c _ => core_alloc Y c).trans (bigSep_fupd _ _)).trans (BI.fupd_mono (regroup Y))

/-! ## The launch's credit -/

theorem OR_sum (c : Dev nD) (g : GSem nD τ sig) : ∀ is : List (Fin 31),
    OR c is g () = (is.map fun i => (tallyAt (recvCell (up c i) i) () N : CellTallies nD τ sig Unit) g ()).sum
  | [] => rfl
  | i :: is => by
    unfold OR
    rw [Pi.add_apply, Finsupp.add_apply, OR_sum c g is, List.map_cons, List.sum_cons, Nat.add_comm]
theorem OB_sum (c : Dev nD) (g : GSem nD τ sig) : ∀ is : List (Fin 31),
    OB c is g () = OR c (List.finRange 31) g () + (is.map fun i => (tallyAt (barCell (up c i)) () 1 : CellTallies nD τ sig Unit) g ()).sum
  | [] => rfl
  | i :: is => by
    unfold OB
    rw [Pi.add_apply, Finsupp.add_apply, OB_sum c g is, List.map_cons, List.sum_cons]; omega

/-- What device `d` owes a cell. -/
theorem O₀_apply (d : Dev nD) (g : GSem nD τ sig) :
    O₀ d g () = (∑ i : Fin 31, (tallyAt (recvCell (up d i) i) () N : CellTallies nD τ sig Unit) g ())
      + ∑ i : Fin 31, (tallyAt (barCell (up d i)) () 1 : CellTallies nD τ sig Unit) g () := by
  unfold O₀; rw [OB_sum, OR_sum, Fin.sum_univ_def, Fin.sum_univ_def]

theorem bar_ne_recv (c d : Dev nD) (i : Fin 31) : barCell c ≠ recvCell d i := fun h => by cases congrArg Prod.snd h

/-- A barrier cell is owed a unit by the device before it, for each distance; -/
theorem owed_bar (c : Dev nD) : ∑ d : Dev nD, O₀ d (barCell c) () = 31 := by
  have h (d : Dev nD) : O₀ d (barCell c) () = ∑ i : Fin 31, if d = dn c i then 1 else 0 := by
    rw [O₀_apply, Finset.sum_eq_zero fun i _ => by rw [tallyAt_ne_cell (bar_ne_recv c _ i)]; rfl, Nat.zero_add]
    refine Finset.sum_congr rfl fun i _ => ?_
    rw [tallyAt_apply]
    by_cases h : d = dn c i
    · rw [if_pos h, if_pos ⟨by rw [h, up_dn], rfl⟩]
    · rw [if_neg h, if_neg fun h' => h (by rw [show c = up d i from congrArg (fun g : GSem nD τ sig => g.1.1) h'.1, dn_up])]
  rw [Finset.sum_congr rfl fun d _ => h d, Finset.sum_comm, Finset.sum_congr rfl fun i _ => Finset.sum_ite_eq' Finset.univ (dn c i) fun _ => 1]
  simp
/-- a receive cell one copy's credit. -/
theorem owed_recv (c : Dev nD) (i : Fin 31) : ∑ d : Dev nD, O₀ d (recvCell c i) () = N := by
  have h (d : Dev nD) : O₀ d (recvCell c i) () = if d = dn c i then N else 0 := by
    rw [O₀_apply, Finset.sum_eq_zero (f := fun j : Fin 31 => (tallyAt (barCell (up d j)) () 1 : CellTallies nD τ sig Unit) (recvCell c i) ())
      fun j _ => by rw [tallyAt_ne_cell (bar_ne_recv _ c i).symm]; rfl, Nat.add_zero,
      Finset.sum_eq_single i (fun j _ hj => by
        rw [tallyAt_apply, if_neg fun h' => hj ?_]
        have h2 : i.val + 34 = j.val + 34 := congrArg (fun g : GSem nD τ sig => match g.2 with | .dma q => q.val | .reg _ => 0) h'.1
        exact Fin.ext (by omega)) (fun hi => absurd (Finset.mem_univ i) hi), tallyAt_apply]
    by_cases h : d = dn c i
    · rw [if_pos h, if_pos ⟨by rw [h, up_dn], rfl⟩]
    · rw [if_neg h, if_neg fun h' => h (by rw [show c = up d i from congrArg (fun g : GSem nD τ sig => g.1.1) h'.1, dn_up])]
  rw [Finset.sum_congr rfl fun d _ => h d, Finset.sum_ite_eq' Finset.univ (dn c i) fun _ => N, if_pos (Finset.mem_univ _)]

theorem launch_of (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem recvSem_injective : Function.Injective fun i : Fin 31 => (SemLoc.dma (rS i) : SemLoc sig) := fun i j h => by
  have h2 : i.val + 34 = j.val + 34 := congrArg (fun s : SemLoc sig => match s with | .dma q => q.val | .reg _ => 0) h
  exact Fin.ext (by omega)

omit [FloatOps F] in
theorem creds (c : Dev nD) : (Pipeline.launchCred O₀ c : sProp 𝕄)
    ⊢ iprop(cred (tallyAt (barCell c) () 31) ∗ bigSep Finset.univ fun i => cred (tallyAt (recvCell c i) () N)) := by
  unfold Pipeline.launchCred
  rw [bigSep_univ_at _ (SemLoc.reg barS), launch_of _ _ (owed_bar c)]
  refine sep_mono_right ?_
  rw [show (bigSep Finset.univ fun i => (cred (tallyAt (recvCell c i) () N) : sProp 𝕄))
      = bigSep (Finset.univ.map ⟨_, recvSem_injective⟩) fun sm => cred (tallyOn ((c : Thread nD τ), sm) (launchCredit (Pipeline.owing O₀) 0 ((c : Thread nD τ), sm))) from by
    rw [bigSep_map]
    exact bigSep_congr fun i _ => congrArg _ (launch_of (recvCell c i) N (owed_recv c i)).symm]
  refine bigSep_subset fun s hs => ?_
  obtain ⟨i, -, rfl⟩ := Finset.mem_map.mp hs
  exact Finset.mem_erase.mpr ⟨(fun h => by cases h), Finset.mem_univ _⟩

end Cert.KernelIdealRun

end
-- ==== Proof.KernelIdealRun.Run.lean ====
/-
# The run

From any memory with the counters at zero, the program on its 32 devices terminates, leaves every device's arguments as
they were and every counter at zero, and device `c`'s result array holds `outBuf c Y`, where `Y d` is what device `d`
computes from its own arguments.
-/
module

public import proofs.«01_k».proof.Proof.KernelIdealRun.Launch
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- Device `c`'s inputs as staged; -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
/-- what it computes from them. -/
def Yof (c : Dev nD) : FVec F S128x2048 .f32 := k0_pay1 (xstg m c) (wstg m c)

/-! ## The pipeline's proof data -/

def start (c : Dev nD) : sProp 𝕄 :=
  iprop((∃ K, ghost (Yof m) K c) ∗ cred (tallyAt (barCell c) () 31) ∗ (bigSep Finset.univ fun i => cred (tallyAt (recvCell c i) () N)) ∗ levAts L lv)

/-- Before the body; -/
def Φ₀ (c : Dev nD) : sProp 𝕄 :=
  iprop(start m c ∗ ∃ f : Buf (Elt F) ((c : Thread nD τ).loc cc0_scratch0), ((c : Thread nD τ).loc cc0_scratch0) ↦{fullShare} f)
/-- after it. -/
def Φ₁ (c : Dev nD) : sProp 𝕄 :=
  iprop((((c : Thread nD τ).loc cc0_scratch0) ↦{fullShare} yBuf (Yof m c)) ∗ semVal (barCell c) 0 ∗ semVal (locCell c) 0
    ∗ (bigSep Finset.univ fun i => semVal (sendCell c i) 0) ∗ (bigSep Finset.univ fun i => semVal (recvCell c i) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outBuf c (Yof m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m c ∗ (dats m ρ 0 c).owesAt () t0_0.succ ∗ stg c cc0_stg0_0 (xstg m c) ∗ stg c cc0_stg1_0 (wstg m c)
    ∗ stg c cc0_stg2_0 (outBuf c (Yof m)))

set_option maxHeartbeats 800000 in
theorem sound_body (c : Dev nD) : bodyPre m ρ c ⊢ WP c (canon c) (fun _ => bodyPost m ρ c) := by
  unfold bodyPre Φ₀ start
  iintro ⟨⟨⟨⟨%K, Hg⟩, HcB, HcR, Hlev⟩, ⟨%g, Hscr⟩⟩, Ho, ⟨%d0, %f0, %hf0, Hx⟩, ⟨%d1, %f1, %hf1, Hw⟩, ⟨%d2, %f2, %hf2, Hout⟩⟩
  have hx : f0 = xstg m c := by rw [hf0]; unfold Dat.before; rw [if_pos (fetch_0 t0_0)]; rfl
  have hw : f1 = wstg m c := by rw [hf1]; unfold Dat.before; rw [if_pos (fetch_1 t0_0)]; rfl
  subst hx
  subst hw
  unfold Dat.owesAt Pipeline.owesWithin
  icases Ho with ⟨%W, %hW, HO⟩
  rw [show (dats m ρ 0 c).owed t0_0.castSucc = O₀ c from rfl]
  iapply (wp_canon (Yof m) K c _ W (xstg m c) (wstg m c) rfl f2 g) $$ [Hg Hlev HO HcB HcR Hx Hw Hout Hscr]
  · isplitl [Hg]; · iexact Hg
    isplitl [Hlev]; · iexact Hlev
    isplitl [HO]; · iexact HO
    isplitl [HcB]; · iexact HcB
    isplitl [HcR]; · iexact HcR
    isplitl [Hx]; · iexact Hx
    isplitl [Hw]; · iexact Hw
    isplitl [Hout] <;> iassumption
  unfold yields bodyPost Φ₁ Dat.owesAt Pipeline.owesWithin
  rw [show (dats m ρ 0 c).owed t0_0.succ = 0 from rfl]
  iintro ⟨⟨⟨%W', HO⟩, Hout, Hscr, HzB, HzL, HzS, HzR⟩, Hx, Hw⟩
  isplitl [Hscr HzB HzL HzS HzR]
  · isplitl [Hscr]; · iexact Hscr
    isplitl [HzB]; · iexact HzB
    isplitl [HzL]; · iexact HzL
    isplitl [HzS] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The program that the pipeline runs at its point. -/
theorem body_at (t : Fin cfg0.N) : defs₀ (F := F) .tc cfg0.body (cfg0.bodyArgs t (cfg0.slots t)) = .op .deviceId fun c => canon c := by
  show cc0_body (win0_0.stage (cfg0.slots t 0)) (hstage0_0 0) (win0_1.stage (cfg0.slots t 1)) (hstage0_1 0)
    (win0_2.stage (cfg0.slots t 2)) (hstage0_2 0) (Memref.whole cc0_scratch0) (Memref.isWhole_whole _)
    cc0_scratch1 cc0_scratch2 cc0_scratch3 = _
  exact body_eq

set_option maxRecDepth 4000 in
/-- The library's obligation on the body. -/
theorem body_obligation (c : Dev nD) : BodyObligation (dats (F := F) m ρ 0 c) (defs₀ (F := F)) 𝒱₀ () Set.univ := fun t => by
  rw [fin_N0 t]
  rw [bigSep_W0, bigSep_W0]
  rw [body_at, wp_deviceId]
  simp only [owns_whole_eq]
  have hpost : (fun _ : PUnit => bodyPost m ρ c) = fun _ : PUnit => iprop((dats m ρ 0 c).Φ t0_0.succ ∗ (dats m ρ 0 c).owesAt () t0_0.succ
      ∗ stg c cc0_stg0_0 ((dats m ρ 0 c).after 0 t0_0) ∗ stg c cc0_stg1_0 ((dats m ρ 0 c).after 1 t0_0)
      ∗ stg c cc0_stg2_0 ((dats m ρ 0 c).after 2 t0_0)) := by
    funext _; unfold bodyPost; rfl
  have hpre : bodyPre m ρ c = iprop((dats m ρ 0 c).Φ t0_0.castSucc ∗ (dats m ρ 0 c).owesAt () t0_0.castSucc
      ∗ (∃ d, stg c cc0_stg0_0 ((dats m ρ 0 c).before 0 t0_0 d)) ∗ (∃ d, stg c cc0_stg1_0 ((dats m ρ 0 c).before 1 t0_0 d))
      ∗ (∃ d, stg c cc0_stg2_0 ((dats m ρ 0 c).before 2 t0_0 d))) := by
    unfold bodyPre; rfl
  have h := sound_body m ρ c
  rw [hpost, hpre] at h
  unfold WP at h
  convert h using 1

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Yof m) c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hr, HzB, HzL, HzS, HzR⟩
  isplitl [HzB]; · iexact HzB
  isplitl [HzL HzS HzR]
  · isplitl [HzL]; · iexact HzL
    isplitl [HzS] <;> iassumption
  iexists (yBuf (Yof m c)); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Yof m)) (G' := G' (Yof m)) (u₀ := u₀)
    (hu₀ := by
      unfold u₀
      iintro Hu
      ihave H := (ownU_pair _ _) $$ Hu
      icases H with ⟨HP, HX⟩
      imod (fund_all (Yof m)) $$ HX with HG
      imodintro
      isplitl [HP] <;> iassumption)
    (hglob := glob (Yof m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealRun

end
-- ==== Proof.KernelIdealRun.Result.lean ====
/-
# What the run leaves

The run's final arrays read as whole buffers: both arguments as they were, and the result `outBuf c Y` with `Y d` what
device `d` computes from its own arguments.
-/
module

public import proofs.«01_k».proof.Proof.KernelIdealRun.Run

@[expose] public section

noncomputable section

namespace Cert.KernelIdealRun

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- What device `c` computes from its arguments. -/
def prod (c : Dev nD) : FVec F S128x2048 .f32 :=
  k0_pay1 (m ((c : Thread nD τ).loc main_arg0)) (m ((c : Thread nD τ).loc main_arg1))

/-- The first staged input is the whole first argument, -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- the second the whole second argument. -/
theorem wstg_eq (c : Dev nD) : wstg m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

theorem Yof_eq : Yof m = prod m := by
  funext c; unfold Yof prod; rw [xstg_eq, wstg_eq]

/-- No step writes the first argument, -/
theorem finalA_x (c : Dev nD) : finalA m ρ c 0 = m ((c : Thread nD τ).loc main_arg0) :=
  (dats m ρ 0 c).arrAt_in (0 : Fin 3) rfl _

/-- nor the second. -/
theorem finalA_w (c : Dev nD) : finalA m ρ c 1 = m ((c : Thread nD τ).loc main_arg1) :=
  (dats m ρ 0 c).arrAt_in (1 : Fin 3) rfl _

/-- The result array is what the body left in the staging buffer. -/
theorem finalA_o (c : Dev nD) : finalA m ρ c 2 = outBuf c (prod m) := by
  have h : (win0_2.blk (0 : Fin 1)).view.read (Elt F) (finalA m ρ c 2) = outBuf c (Yof m) := by
    unfold finalA
    rw [show cfg0.N = ((0 : Fin 1) : Fin cfg0.N).val + 1 from rfl, (dats m ρ 0 c).arrAt_succ (2 : Fin 3) (0 : Fin 1)]
    rw [show (cfg0.win 2).flush (0 : Fin 1) = true from by decide, if_pos rfl]
    exact View.read_write_univ _ _
  have hz : (fun a => (win0_2.index (0 : Fin 1)) a * main_v1.ty.shape.size a) = fun _ => 0 :=
    funext fun a => by fin_cases a <;> decide
  have hr := Memref.read_access_unit_zero (Elt F) main_v1 hz (fun a => by fin_cases a <;> decide) (finalA m ρ c 2)
  rw [Yof_eq] at h
  exact hr.symm.trans h

/-- The program's run: it terminates without fault, every device's result holds its rows from every device, the arguments
    are unchanged and every counter ends at zero. -/
theorem run_main : θ_run defs (onTc (τ := τ) (main (F := F))) (⟨m, fun _ => 0, ρ⟩ : MemSt nD τ sig (Elt F)) (fun r =>
    (∀ c : Dev nD, r.2.mem ((c : Thread nD τ).loc main_v1) = outBuf c (prod m)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c 2).trans (finalA_o m ρ c), (h.1 c 0).trans (finalA_x m ρ c),
    (h.1 c 1).trans (finalA_w m ρ c)⟩, h.2⟩) (run_arrays m ρ)

end Cert.KernelIdealRun

end
-- ==== Proof.Value.Blocks.lean ====
/-
# Where an element of the result comes from

Row `r` and column `j` of device `c`'s result is row `r mod 128` and column `64 c + j` of what device `r / 128` computed.
-/
module

public import proofs.«01_k».proof.Proof.KernelIdealRun.Geometry
public import Idealize.ShloMosaic.Lib.Pointwise

@[expose] public section

noncomputable section

namespace Cert.Value

open Cert.KernelIdeal Cert.KernelIdeal.Gen Cert.KernelIdealRun

open Idealize.ShloMosaic
open Idealize.ShloMosaic.TcCoe

variable {F : FTy → Type} [FloatOps F]

/-- Block `t` at an element: columns `64 t …` of the product. -/
theorem blkOf_apply (t : Fin 32) (y : FVec F S128x2048 .f32) (u : Fin 1) (a : Fin 128) (b : Fin 64) :
    blkOf t y (ix3 u a b) = y (ix2 a ⟨64 * t.val + b.val, by have := t.isLt; have := b.isLt; omega⟩) := by
  unfold blkOf
  pointwise

/-- The scratch buffer at an element. -/
theorem yBuf_apply (y : FVec F S128x2048 .f32) (i : S32x128x64.Idx) :
    yBuf y i = y (ix2 (i 1) ⟨64 * (i 0).val + (i 2).val, by
      have h0 : (i 0).val < 32 := (i 0).isLt; have h2 : (i 2).val < 64 := (i 2).isLt; omega⟩) :=
  blkOf_apply _ y _ _ _

/-- The rows sent to device `t` at an element. -/
theorem rowsFor_apply (t : Dev nD) (y : FVec F S128x2048 .f32) (a : Fin 128) (b : Fin 64) :
    rowsFor t y (ix2 a b) = y (ix2 a ⟨64 * t.val + b.val, by have : t.val < 32 := t.isLt; have := b.isLt; omega⟩) := by
  have h : rowsFor t y = shapeCast S128x64 ((View.whole cc0_scratch0).readAt (Elt F)
      (Rect.unit (s := S32x128x64) (k0_off2 t) S1x128x64.size (k0_off2_inb t)).toLoadRect (yBuf y)) (show S1x128x64.ShapeCasts S128x64 by decide) := rfl
  have h0 : k0_off2 t = ![t.val, 0, 0] := k0_off2_eq t
  rw [h]
  have hs : ∀ g : S1x128x64.Idx → Elt F .f32, shapeCast S128x64 g (show S1x128x64.ShapeCasts S128x64 by decide) (ix2 a b)
      = g (ix3 (0 : Fin 1) a b) := fun g => by pointwise
  refine (hs _).trans ((yBuf_apply y _).trans (congrArg y (congrArg₂ ix2 (Fin.ext ?_) (Fin.ext ?_))))
  · show (k0_off2 t) 1 + 1 * a.val = a.val
    rw [h0]; simp
  · show 64 * ((k0_off2 t) 0 + 1 * 0) + ((k0_off2 t) 2 + 1 * b.val) = 64 * t.val + b.val
    rw [h0]; simp

/-- The result at an element. -/
theorem outBuf_apply (t : Dev nD) (Y : Dev nD → FVec F S128x2048 .f32) (r : Fin 4096) (j : Fin 64) :
    outBuf t Y (ix2 r j) = Y (⟨r.val / 128, by have := r.isLt; show _ < 32; omega⟩ : Dev nD)
      (ix2 (⟨r.val % 128, Nat.mod_lt _ (by decide)⟩ : Fin 128)
        ⟨64 * t.val + j.val, by have : t.val < 32 := t.isLt; have := j.isLt; omega⟩) := by
  unfold outBuf
  exact rowsFor_apply t _ _ _

end Cert.Value

end
-- ==== Proof.Value.Silu.lean ====
/-
# The activation over the extended reals

The kernel multiplies by the logistic function, the reference divides by `1 + exp (-v)`: the same value, at the infinities
too. Between the bounds of the clip the clipped form is the same again.
-/
module

public import Idealize.ShloMosaic.Lib.Pointwise
public import Idealize.ShloMosaic.Lib.IdealHost

@[expose] public section

noncomputable section

namespace Cert.Value

open Idealize.ShloMosaic

/-- `v / (1 + exp (-v))`. -/
def silu (v : EReal) : EReal := Ideal.div v (1 + Ideal.exp (-v))

/-- The exponential is nowhere negative. -/
theorem exp_nonneg (v : EReal) : 0 ≤ Ideal.exp v := by
  induction v using EReal.rec with
  | bot => simp
  | top => simp
  | coe r => rw [Ideal.exp_coe]; exact_mod_cast (Real.exp_pos r).le

/-- The denominator is not zero. -/
theorem denom_ne_zero (v : EReal) : 1 + Ideal.exp v ≠ 0 := by
  have h : (1 : EReal) ≤ 1 + Ideal.exp v := le_add_of_nonneg_right (exp_nonneg v)
  exact (lt_of_lt_of_le zero_lt_one h).ne'

/-- The kernel's form is the reference's. -/
theorem mul_logistic (v : EReal) : v * Ideal.logistic v = silu v := by
  unfold Ideal.logistic silu Ideal.div
  rw [if_neg (denom_ne_zero _), if_neg (denom_ne_zero _), one_mul]

/-- A value between two bounds is what the clip to them leaves. -/
theorem clip_of_mem {lo hi v : EReal} (h₁ : lo ≤ v) (h₂ : v ≤ hi) : min hi (max lo v) = v := by
  rw [max_eq_right h₁, min_eq_right h₂]

end Cert.Value

end
-- ==== Proof.Value.Elements.lean ====
/-
# What one device computes, and what the references compute, at an element
-/
module

public import proofs.«01_k».proof.Proof.Value.Silu
public import proofs.«01_k».proof.Proof.Gen.KernelIdeal.Skeleton
public import proofs.«01_k».proof.Proof.Gen.ReferenceIdeal.Run
public import proofs.«01_k».proof.Proof.Gen.ClippedIdeal.Run
public import proofs.«01_k».proof.Proof.Gen.On_within_clip

@[expose] public section

noncomputable section

namespace Cert.Value

open Idealize.ShloMosaic

/-- One element of the product `x w`: row `a` of `x`, of which `M` are there, with column `b` of `w`. -/
def entry {M : ℕ} (x : (⟨2, ![M, 4096]⟩ : Shape).Idx → EReal) (w : (⟨2, ![4096, 2048]⟩ : Shape).Idx → EReal) (a : Fin M) (b : Fin 2048) : EReal :=
  ∑ k : Fin 4096, x (ix2 a k) * w (ix2 k b)

open Cert.KernelIdeal Cert.KernelIdeal.Gen in
/-- A device's product with the activation applied. -/
theorem pay_apply (x : FVec Ideal S128x4096 .f32) (w : FVec Ideal S4096x2048 .f32) (a : Fin 128) (b : Fin 2048) :
    k0_pay1 (F := Ideal) x w (ix2 a b) = silu (entry x w a b) := by
  rw [← mul_logistic]
  pointwise [k0_pay1, entry]

open Cert.ReferenceIdeal Cert.ReferenceIdeal.Gen in
/-- The whole product. -/
theorem dot_apply (x : FVec Ideal S4096x4096 .f32) (w : FVec Ideal S4096x2048 .f32) (r : Fin 4096) (b : Fin 2048) :
    Host.dotGeneral dot_S4096x4096_S4096x2048_S4096x2048_1_0_0_1_n_n none x w (ix2 r b) = entry x w r b := by
  pointwise [entry]

open Cert.ReferenceIdeal Cert.ReferenceIdeal.Gen in
/-- The reference's result without the clip, as its run states it, -/
def refOut (x : FVec Ideal S4096x4096 .f32) (w : FVec Ideal S4096x2048 .f32) : FVec Ideal S4096x2048 .f32 :=
  Host.divf (Host.dotGeneral dot_S4096x4096_S4096x2048_S4096x2048_1_0_0_1_n_n none x w)
    (addf (broadcastInDim S4096x2048 ![] bcast_S_S4096x2048 (constant S_ .f32 0x3F800000#32))
      (Host.exp (Host.negf (Host.dotGeneral dot_S4096x4096_S4096x2048_S4096x2048_1_0_0_1_n_n none x w))))

/-- and at an element. -/
theorem refOut_apply (x : FVec Ideal Cert.ReferenceIdeal.S4096x4096 .f32) (w : FVec Ideal Cert.ReferenceIdeal.S4096x2048 .f32)
    (r : Fin 4096) (b : Fin 2048) : refOut x w (ix2 r b) = silu (entry x w r b) := by
  pointwise [refOut, silu, entry]

open Cert.ClippedIdeal Cert.ClippedIdeal.Gen in
/-- The reference's result with the clip, as its run states it; -/
def clipOut (x : FVec Ideal S4096x4096 .f32) (w : FVec Ideal S4096x2048 .f32) : FVec Ideal S4096x2048 .f32 :=
  Host.divf (Host.dotGeneral dot_S4096x4096_S4096x2048_S4096x2048_1_0_0_1_n_n none x w)
    (addf (broadcastInDim S4096x2048 ![] bcast_S_S4096x2048 (constant S_ .f32 0x3F800000#32))
      (Host.exp (Host.negf (minimumf (broadcastInDim S4096x2048 ![] bcast_S_S4096x2048 (id (constant S_ .f32 0x42700000#32)))
        (maximumf (broadcastInDim S4096x2048 ![] bcast_S_S4096x2048 (id (constant S_ .f32 0xC2700000#32)))
          (Host.dotGeneral dot_S4096x4096_S4096x2048_S4096x2048_1_0_0_1_n_n none x w))))))

/-- at an element; -/
theorem clipOut_apply (x : FVec Ideal Cert.ClippedIdeal.S4096x4096 .f32) (w : FVec Ideal Cert.ClippedIdeal.S4096x2048 .f32)
    (r : Fin 4096) (b : Fin 2048) : clipOut x w (ix2 r b)
      = Ideal.div (entry x w r b) (1 + Ideal.exp (-(min (Ideal.ofBits .f32 0x42700000#32) (max (Ideal.ofBits .f32 0xC2700000#32) (entry x w r b))))) := by
  pointwise [clipOut, entry, id]

/-- where the mask holds it is the result without the clip. -/
theorem clipOut_eq (x : FVec Ideal Cert.ClippedIdeal.S4096x4096 .f32) (w : FVec Ideal Cert.ClippedIdeal.S4096x2048 .f32)
    (i : (⟨2, ![4096, 2048]⟩ : Shape).Idx) (h : Cert.On_within_clip.fn (F := Ideal) x w i = 1#1) : clipOut x w i = refOut x w i := by
  obtain ⟨r, b, rfl⟩ : ∃ r b, i = ix2 r b := ⟨i 0, i 1, eq_ix2 i⟩
  have hb : Ideal.ofBits .f32 0xC2700000#32 ≤ entry x w r b ∧ entry x w r b ≤ Ideal.ofBits .f32 0x42700000#32 := by
    revert h
    pointwise [Cert.On_within_clip.fn, entry]
    generalize (∑ k : Fin 4096, x (ix2 r k) * w (ix2 k b)) = v
    intro h
    by_cases h₁ : Ideal.ofBits .f32 0xC2700000#32 ≤ v <;> by_cases h₂ : v ≤ Ideal.ofBits .f32 0x42700000#32
    · exact ⟨h₁, h₂⟩
    all_goals (simp [h₁, h₂, IntOp.andi] at h)
  rw [clipOut_apply, refOut_apply, clip_of_mem hb.1 hb.2]
  rfl

end Cert.Value

end
-- ==== Proof.Value.Whole.lean ====
/-
# A device's result as a block of the whole result

When device `p`'s first argument is block `p` of the rows of `X` and its second is `W`, device `c`'s result is block `c`
of the columns of the reference's result on `X` and `W`.
-/
module

public import proofs.«01_k».proof.Proof.KernelIdealRun.Result
public import proofs.«01_k».proof.Proof.Value.Blocks
public import proofs.«01_k».proof.Proof.Value.Elements
public import Idealize.ShloMosaic.Lib.Layout

@[expose] public section

noncomputable section

namespace Cert.Value

open Cert.KernelIdeal Cert.KernelIdeal.Gen Cert.KernelIdealRun

open Idealize.ShloMosaic
open Idealize.ShloMosaic.TcCoe

/-- Row `a` of block `p` of `X` is row `128 p + a` of `X`: so are the entries of the products. -/
theorem entry_block (p : Fin 32) (X : (⟨2, ![4096, 4096]⟩ : Shape).Idx → EReal) (W : (⟨2, ![4096, 2048]⟩ : Shape).Idx → EReal)
    (a : Fin 128) (b : Fin 2048) (r : Fin 4096) (hr : r.val = p.val * 128 + a.val) :
    entry (Layout.block ⟨2, ![128, 4096]⟩ ⟨2, ![4096, 4096]⟩ 0 32 p X) W a b = entry X W r b := by
  unfold entry
  refine Finset.sum_congr rfl fun k _ => congrArg (· * W (ix2 k b)) ?_
  refine congrArg X ((eq_ix2 _).trans (congrArg₂ ix2 (Fin.ext ?_) (Fin.ext rfl)))
  exact hr.symm

variable (m : (ℓ : Loc nD τ sig) → Buf (Elt Ideal) ℓ)
  (X : FVec Ideal Cert.ReferenceIdeal.S4096x4096 .f32) (W : FVec Ideal Cert.ReferenceIdeal.S4096x2048 .f32)

/-- The equation of the value claims: device `c`'s result is block `c` of the reference's columns. -/
theorem result_block (hX : ∀ c : Dev nD, m ((c.tc : Thread nD τ).loc main_arg0) = Layout.block ⟨2, ![128, 4096]⟩ ⟨2, ![4096, 4096]⟩ 0 32 c X
      ∧ m ((c.tc : Thread nD τ).loc main_arg1) = W) (c : Dev nD) :
    outBuf c (prod m) = Layout.block ⟨2, ![4096, 64]⟩ ⟨2, ![4096, 2048]⟩ 1 32 c (refOut X W) := by
  funext i
  obtain ⟨r, j, rfl⟩ : ∃ (r : Fin 4096) (j : Fin 64), i = ix2 r j := ⟨i 0, i 1, eq_ix2 i⟩
  have hc : c.val < 32 := c.isLt
  have hj := j.isLt
  have hR : (Layout.block ⟨2, ![4096, 64]⟩ ⟨2, ![4096, 2048]⟩ 1 32 c (refOut X W)) (ix2 r j)
      = refOut X W (ix2 r ⟨64 * c.val + j.val, by omega⟩) :=
    congrArg (refOut X W) ((eq_ix2 _).trans (congrArg₂ ix2 (Fin.ext rfl)
      (Fin.ext (show c.val * 64 + j.val = 64 * c.val + j.val by omega))))
  refine (outBuf_apply c (prod m) r j).trans (Eq.trans ?_ hR.symm)
  unfold prod
  rw [(hX _).1, (hX _).2, refOut_apply]
  refine (pay_apply _ _ _ _).trans (congrArg silu (entry_block _ X W _ _ r ?_))
  show r.val = r.val / 128 * 128 + r.val % 128
  omega

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal.Run
public import proofs.«01_k».proof.Proof.Gen.ClippedIdeal
public import proofs.«01_k».proof.Proof.Gen.On_within_clip
public import proofs.«01_k».proof.Proof.KernelRun.Result
public import proofs.«01_k».proof.Proof.Value.Whole
public import Idealize.ShloMosaic.Adequacy
public import Idealize.ShloMosaic.Init

@[expose] public section

noncomputable section

namespace Cert.Proof

open Idealize.ShloMosaic Idealize.SL.Sem

/-- The kernel's frame, on the bits; -/
theorem frame_kernel : Cert.quiescent_Kernel := fun m ρ _ =>
  (θ_run Cert.Kernel.defs _ _).mono (fun _ h => ⟨fun c => (h.1 c).2, h.2⟩) (Cert.KernelRun.run_main (F := Bits) m ρ)

/-- over the extended reals; -/
theorem frame_ideal : Cert.quiescent_KernelIdeal := fun m ρ _ =>
  (θ_run Cert.KernelIdeal.defs _ _).mono (fun _ h => ⟨fun c => (h.1 c).2, h.2⟩) (Cert.KernelIdealRun.run_main (F := Ideal) m ρ)

/-- the frame of the reference without the clip, which has no semaphores; -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- and of the one with it. -/
theorem frame_clipped : Cert.quiescent_ClippedIdeal := fun m ρ _ =>
  (θ_run Cert.ClippedIdeal.defs _ _).mono
    (fun r h => ⟨fun c => (h c).2, Idealize.ShloMosaic.sem_eq_zero_of_no_sems (by decide) r.2⟩)
    (Cert.ClippedIdeal.Value.run (F := Ideal) m ρ)

/-- Each device's result is its block of columns of `y / (1 + exp (-y))`, `y` the product of the whole arrays. -/
theorem value : Cert.algebraic_KernelIdeal_ReferenceIdeal := by
  intro m ρ m' ρ' _ hagree
  refine ⟨Cert.Value.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).1.trans (Cert.Value.result_block m _ _ hagree c), (h.1 c).2⟩)
      (Cert.KernelIdealRun.run_main (F := Ideal) m ρ)
  · exact (θ_run Cert.ReferenceIdeal.defs _ _).mono (fun _ h => h 0) (Cert.ReferenceIdeal.Value.run (F := Ideal) m' ρ')

/-- The same against the reference with its clip, at the elements where the product lies between the clip's bounds. -/
theorem value_clipped : Cert.algebraic_KernelIdeal_ClippedIdeal_on_within_clip := by
  intro m ρ m' ρ' _ hagree
  refine ⟨Cert.Value.refOut (m' (((0 : Dev Cert.ClippedIdeal.nD).tc : Thread _ Cert.ClippedIdeal.τ).loc Cert.ClippedIdeal.main_arg0))
    (m' (((0 : Dev Cert.ClippedIdeal.nD).tc : Thread _ Cert.ClippedIdeal.τ).loc Cert.ClippedIdeal.main_arg1)), ?_, ?_⟩
  · exact (θ_run Cert.KernelIdeal.defs _ _).mono
      (fun _ h c => ⟨fun i _ => congrFun ((h.1 c).1.trans (Cert.Value.result_block m _ _ hagree c)) i, (h.1 c).2⟩)
      (Cert.KernelIdealRun.run_main (F := Ideal) m ρ)
  · exact (θ_run Cert.ClippedIdeal.defs _ _).mono
      (fun _ h => ⟨fun i hi => (congrFun (h 0).1 i).trans (Cert.Value.clipOut_eq _ _ i hi), (h 0).2⟩)
      (Cert.ClippedIdeal.Value.run (F := Ideal) m' ρ')

theorem claim : Cert.Claim := ⟨Cert.Kernel.Gen.facts, Cert.KernelIdeal.Gen.facts, Cert.ReferenceIdeal.Gen.facts, Cert.ClippedIdeal.Gen.facts, Cert.On_within_clip.Gen.facts,
  frame_kernel, frame_ideal, frame_reference, frame_clipped, trivial, value, value_clipped⟩

end Cert.Proof

end
